-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x1024 : Shape := ⟨2, ![1024, 1024]⟩
abbrev S8x7 : Shape := ⟨2, ![8, 7]⟩
abbrev S128x1024 : Shape := ⟨2, ![128, 1024]⟩
abbrev S8x128x128 : Shape := ⟨3, ![8, 128, 128]⟩
abbrev S8 : Shape := ⟨1, ![8]⟩
abbrev S1x1 : Shape := ⟨2, ![1, 1]⟩
abbrev S_ : Shape := ⟨0, ![]⟩
abbrev S1 : Shape := ⟨1, ![1]⟩
abbrev S1x128x128 : Shape := ⟨3, ![1, 128, 128]⟩
abbrev S128x128 : Shape := ⟨2, ![128, 128]⟩

abbrev nBuf : Space → Nat
  | .hbm => 4
  | .vmem => 5
  | .smem => 1
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S8x7, .i32⟩
  | .hbm, ⟨3, _⟩ => ⟨S128x1024, .f32⟩
  | .local _ .vmem, ⟨0, _⟩ => ⟨S1024x128, .f32⟩
  | .local _ .vmem, ⟨1, _⟩ => ⟨S1024x1024, .f32⟩
  | .local _ .vmem, ⟨2, _⟩ => ⟨S128x1024, .f32⟩
  | .local _ .vmem, ⟨3, _⟩ => ⟨S1024x128, .bf16⟩
  | .local _ .vmem, ⟨4, _⟩ => ⟨S8x128x128, .bf16⟩
  | .local _ .smem, ⟨0, _⟩ => ⟨S8x7, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  let c0 : Index := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : Index := Scalar.indexCast v2
  let c1 : Index := 1#32
  ![v5.toNat, 1]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v7 : Index := Scalar.indexCast v2
  let c2 : Index := 2#32
  ![v7.toNat, 2]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : Index := Scalar.indexCast v2
  let c3 : Index := 3#32
  ![v9.toNat, 3]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v11 : Index := Scalar.indexCast v2
  let c4 : Index := 4#32
  ![v11.toNat, 4]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : Index := Scalar.indexCast v2
  let c5 : Index := 5#32
  ![v13.toNat, 5]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v15 : Index := Scalar.indexCast v2
  let c6 : Index := 6#32
  ![v15.toNat, 6]
def k0_dev1 (v4 : BitVec 32) : Nat :=
  let c0_i32 : BitVec 32 := 0#32
  let c1_i32_5 : BitVec 32 := 1#32
  let v24 : BitVec 32 := Scalar.muli v4 c1_i32_5
  let v25 : BitVec 32 := Scalar.addi c0_i32 v24
  v25.toNat

def k0_dev2 (v6 : BitVec 32) : Nat :=
  let c0_i32_8 : BitVec 32 := 0#32
  let c1_i32_7 : BitVec 32 := 1#32
  let v26 : BitVec 32 := Scalar.muli v6 c1_i32_7
  let v27 : BitVec 32 := Scalar.addi c0_i32_8 v26
  v27.toNat

def k0_dev3 (v8 : BitVec 32) : Nat :=
  let c0_i32_11 : BitVec 32 := 0#32
  let c1_i32_10 : BitVec 32 := 1#32
  let v28 : BitVec 32 := Scalar.muli v8 c1_i32_10
  let v29 : BitVec 32 := Scalar.addi c0_i32_11 v28
  v29.toNat

def k0_dev4 (v10 : BitVec 32) : Nat :=
  let c0_i32_14 : BitVec 32 := 0#32
  let c1_i32_13 : BitVec 32 := 1#32
  let v30 : BitVec 32 := Scalar.muli v10 c1_i32_13
  let v31 : BitVec 32 := Scalar.addi c0_i32_14 v30
  v31.toNat

def k0_dev5 (v12 : BitVec 32) : Nat :=
  let c0_i32_17 : BitVec 32 := 0#32
  let c1_i32_16 : BitVec 32 := 1#32
  let v32 : BitVec 32 := Scalar.muli v12 c1_i32_16
  let v33 : BitVec 32 := Scalar.addi c0_i32_17 v32
  v33.toNat

def k0_dev6 (v14 : BitVec 32) : Nat :=
  let c0_i32_20 : BitVec 32 := 0#32
  let c1_i32_19 : BitVec 32 := 1#32
  let v34 : BitVec 32 := Scalar.muli v14 c1_i32_19
  let v35 : BitVec 32 := Scalar.addi c0_i32_20 v34
  v35.toNat

def k0_dev7 (v16 : BitVec 32) : Nat :=
  let c0_i32_23 : BitVec 32 := 0#32
  let c1_i32_22 : BitVec 32 := 1#32
  let v36 : BitVec 32 := Scalar.muli v16 c1_i32_22
  let v37 : BitVec 32 := Scalar.addi c0_i32_23 v36
  v37.toNat

def k0_off8 (v16 : BitVec 32) : Fin 1 → Nat :=
  ![v16.toNat]
def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let c0_i32_27 : BitVec 32 := 0#32
  ![v2.toNat, 0, 0]
def k0_off11 (v16 : BitVec 32) : Fin 2 → Nat :=
  let c128_i32 : BitVec 32 := 128#32
  let v38 : BitVec 32 := Scalar.muli v16 c128_i32
  let c0_i32_28 : BitVec 32 := 0#32
  ![v38.toNat, 0]
def k0_dev8 (v16 : BitVec 32) : Nat :=
  let c0_i32_25 : BitVec 32 := 0#32
  let c1_i32_24 : BitVec 32 := 1#32
  let v39 : BitVec 32 := Scalar.muli v16 c1_i32_24
  let v40 : BitVec 32 := Scalar.addi c0_i32_25 v39
  v40.toNat
def k0_off12 (v14 : BitVec 32) : Fin 1 → Nat :=
  ![v14.toNat]
def k0_off13 (v14 : BitVec 32) : Fin 2 → Nat :=
  let c128_i32_29 : BitVec 32 := 128#32
  let v48 : BitVec 32 := Scalar.muli v14 c128_i32_29
  let c0_i32_34 : BitVec 32 := 0#32
  ![v48.toNat, 0]
def k0_dev9 (v14 : BitVec 32) : Nat :=
  let c0_i32_31 : BitVec 32 := 0#32
  let c1_i32_30 : BitVec 32 := 1#32
  let v49 : BitVec 32 := Scalar.muli v14 c1_i32_30
  let v50 : BitVec 32 := Scalar.addi c0_i32_31 v49
  v50.toNat
def k0_off14 (v12 : BitVec 32) : Fin 1 → Nat :=
  ![v12.toNat]
def k0_off15 (v12 : BitVec 32) : Fin 2 → Nat :=
  let c128_i32_35 : BitVec 32 := 128#32
  let v58 : BitVec 32 := Scalar.muli v12 c128_i32_35
  let c0_i32_40 : BitVec 32 := 0#32
  ![v58.toNat, 0]
def k0_dev10 (v12 : BitVec 32) : Nat :=
  let c0_i32_37 : BitVec 32 := 0#32
  let c1_i32_36 : BitVec 32 := 1#32
  let v59 : BitVec 32 := Scalar.muli v12 c1_i32_36
  let v60 : BitVec 32 := Scalar.addi c0_i32_37 v59
  v60.toNat
def k0_off16 (v10 : BitVec 32) : Fin 1 → Nat :=
  ![v10.toNat]
def k0_off17 (v10 : BitVec 32) : Fin 2 → Nat :=
  let c128_i32_41 : BitVec 32 := 128#32
  let v68 : BitVec 32 := Scalar.muli v10 c128_i32_41
  let c0_i32_46 : BitVec 32 := 0#32
  ![v68.toNat, 0]
def k0_dev11 (v10 : BitVec 32) : Nat :=
  let c0_i32_43 : BitVec 32 := 0#32
  let c1_i32_42 : BitVec 32 := 1#32
  let v69 : BitVec 32 := Scalar.muli v10 c1_i32_42
  let v70 : BitVec 32 := Scalar.addi c0_i32_43 v69
  v70.toNat
def k0_off18 (v8 : BitVec 32) : Fin 1 → Nat :=
  ![v8.toNat]
def k0_off19 (v8 : BitVec 32) : Fin 2 → Nat :=
  let c128_i32_47 : BitVec 32 := 128#32
  let v78 : BitVec 32 := Scalar.muli v8 c128_i32_47
  let c0_i32_52 : BitVec 32 := 0#32
  ![v78.toNat, 0]
def k0_dev12 (v8 : BitVec 32) : Nat :=
  let c0_i32_49 : BitVec 32 := 0#32
  let c1_i32_48 : BitVec 32 := 1#32
  let v79 : BitVec 32 := Scalar.muli v8 c1_i32_48
  let v80 : BitVec 32 := Scalar.addi c0_i32_49 v79
  v80.toNat
def k0_off20 (v6 : BitVec 32) : Fin 1 → Nat :=
  ![v6.toNat]
def k0_off21 (v6 : BitVec 32) : Fin 2 → Nat :=
  let c128_i32_53 : BitVec 32 := 128#32
  let v88 : BitVec 32 := Scalar.muli v6 c128_i32_53
  let c0_i32_58 : BitVec 32 := 0#32
  ![v88.toNat, 0]
def k0_dev13 (v6 : BitVec 32) : Nat :=
  let c0_i32_55 : BitVec 32 := 0#32
  let c1_i32_54 : BitVec 32 := 1#32
  let v89 : BitVec 32 := Scalar.muli v6 c1_i32_54
  let v90 : BitVec 32 := Scalar.addi c0_i32_55 v89
  v90.toNat
def k0_off22 (v4 : BitVec 32) : Fin 1 → Nat :=
  ![v4.toNat]
def k0_off23 (v4 : BitVec 32) : Fin 2 → Nat :=
  let c128_i32_59 : BitVec 32 := 128#32
  let v98 : BitVec 32 := Scalar.muli v4 c128_i32_59
  let c0_i32_64 : BitVec 32 := 0#32
  ![v98.toNat, 0]
def k0_dev14 (v4 : BitVec 32) : Nat :=
  let c0_i32_61 : BitVec 32 := 0#32
  let c1_i32_60 : BitVec 32 := 1#32
  let v99 : BitVec 32 := Scalar.muli v4 c1_i32_60
  let v100 : BitVec 32 := Scalar.addi c0_i32_61 v99
  v100.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_65 : BitVec 32 := 128#32
  let v108 : BitVec 32 := Scalar.muli v2 c128_i32_65
  let v109 : Index := Scalar.indexCast v108
  let c0_66 : Index := 0#32
  ![v109.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_67 : BitVec 32 := 128#32
  let v112 : BitVec 32 := Scalar.muli v2 c128_i32_67
  let v113 : Index := Scalar.indexCast v112
  let c0_68 : Index := 0#32
  ![v113.toNat, 0]
def k0_off26 (v4 : BitVec 32) : Fin 3 → Nat :=
  let c0_i32_71 : BitVec 32 := 0#32
  let c0_i32_72 : BitVec 32 := 0#32
  ![v4.toNat, 0, 0]
def k0_off27 (v4 : BitVec 32) : Fin 3 → Nat :=
  let v125 : Index := Scalar.indexCast v4
  let c0_75 : Index := 0#32
  let c0_76 : Index := 0#32
  ![v125.toNat, 0, 0]
def k0_off28 (v4 : BitVec 32) : Fin 2 → Nat :=
  let c128_i32_77 : BitVec 32 := 128#32
  let v129 : BitVec 32 := Scalar.muli v4 c128_i32_77
  let v130 : Index := Scalar.indexCast v129
  let c0_78 : Index := 0#32
  ![v130.toNat, 0]

def k0_chk1 (v4 : BitVec 32) : Prop :=
  ((k0_dev1 v4) < nD) ∧
  (∀ a, (k0_off22 v4) a + S1.size a ≤ S8.size a) ∧
  (∀ a, (k0_off23 v4) a + S128x128.size a ≤ S1024x128.size a) ∧
  (∀ (hinb : ∀ a, (k0_off23 v4) a + S128x128.size a ≤ S1024x128.size a), (Rect.unit (s := S1024x128) (k0_off23 v4) S128x128.size hinb).WholeWords (EltTy.packing .bf16)) ∧
  ((k0_dev14 v4) < nD) ∧
  (∀ a, (k0_off26 v4) a + S1x128x128.size a ≤ S8x128x128.size a) ∧
  (∀ (hinb : ∀ a, (k0_off26 v4) a + S1x128x128.size a ≤ S8x128x128.size a), (Rect.unit (s := S8x128x128) (k0_off26 v4) S1x128x128.size hinb).WholeWords (EltTy.packing .bf16)) ∧
  (∀ a, (k0_off27 v4) a + S1x128x128.size a ≤ S8x128x128.size a) ∧
  (∀ a, (k0_off28 v4) a + S128x1024.size a ≤ S1024x1024.size a)
theorem k0_dev1_lt : ∀ (v4 : BitVec 32) (k0_hw1 : k0_chk1 v4), (k0_dev1 v4) < nD := fun v4 k0_hw1 => k0_hw1.1
theorem k0_off22_inb : ∀ (v4 : BitVec 32) (k0_hw1 : k0_chk1 v4), ∀ a, (k0_off22 v4) a + S1.size a ≤ S8.size a := fun v4 k0_hw1 => k0_hw1.2.1
theorem k0_off23_inb : ∀ (v4 : BitVec 32) (k0_hw1 : k0_chk1 v4), ∀ a, (k0_off23 v4) a + S128x128.size a ≤ S1024x128.size a := fun v4 k0_hw1 => k0_hw1.2.2.1
theorem k0_off23_wordsbf16 : ∀ (v4 : BitVec 32) (k0_hw1 : k0_chk1 v4), (Rect.unit (s := S1024x128) (k0_off23 v4) S128x128.size (k0_off23_inb v4 k0_hw1)).WholeWords (EltTy.packing .bf16) := fun v4 k0_hw1 => k0_hw1.2.2.2.1 (k0_off23_inb v4 k0_hw1)
theorem k0_dev14_lt : ∀ (v4 : BitVec 32) (k0_hw1 : k0_chk1 v4), (k0_dev14 v4) < nD := fun v4 k0_hw1 => k0_hw1.2.2.2.2.1
theorem k0_off26_inb : ∀ (v4 : BitVec 32) (k0_hw1 : k0_chk1 v4), ∀ a, (k0_off26 v4) a + S1x128x128.size a ≤ S8x128x128.size a := fun v4 k0_hw1 => k0_hw1.2.2.2.2.2.1
theorem k0_off26_wordsbf16 : ∀ (v4 : BitVec 32) (k0_hw1 : k0_chk1 v4), (Rect.unit (s := S8x128x128) (k0_off26 v4) S1x128x128.size (k0_off26_inb v4 k0_hw1)).WholeWords (EltTy.packing .bf16) := fun v4 k0_hw1 => k0_hw1.2.2.2.2.2.2.1 (k0_off26_inb v4 k0_hw1)
theorem k0_off27_inb : ∀ (v4 : BitVec 32) (k0_hw1 : k0_chk1 v4), ∀ a, (k0_off27 v4) a + S1x128x128.size a ≤ S8x128x128.size a := fun v4 k0_hw1 => k0_hw1.2.2.2.2.2.2.2.1
theorem k0_off28_inb : ∀ (v4 : BitVec 32) (k0_hw1 : k0_chk1 v4), ∀ a, (k0_off28 v4) a + S128x1024.size a ≤ S1024x1024.size a := fun v4 k0_hw1 => k0_hw1.2.2.2.2.2.2.2.2

def k0_off29 (v6 : BitVec 32) : Fin 3 → Nat :=
  let c0_i32_82 : BitVec 32 := 0#32
  let c0_i32_83 : BitVec 32 := 0#32
  ![v6.toNat, 0, 0]
def k0_off30 (v6 : BitVec 32) : Fin 3 → Nat :=
  let v143 : Index := Scalar.indexCast v6
  let c0_86 : Index := 0#32
  let c0_87 : Index := 0#32
  ![v143.toNat, 0, 0]
def k0_off31 (v6 : BitVec 32) : Fin 2 → Nat :=
  let c128_i32_88 : BitVec 32 := 128#32
  let v147 : BitVec 32 := Scalar.muli v6 c128_i32_88
  let v148 : Index := Scalar.indexCast v147
  let c0_89 : Index := 0#32
  ![v148.toNat, 0]

def k0_chk2 (v6 : BitVec 32) : Prop :=
  ((k0_dev2 v6) < nD) ∧
  (∀ a, (k0_off20 v6) a + S1.size a ≤ S8.size a) ∧
  (∀ a, (k0_off21 v6) a + S128x128.size a ≤ S1024x128.size a) ∧
  (∀ (hinb : ∀ a, (k0_off21 v6) a + S128x128.size a ≤ S1024x128.size a), (Rect.unit (s := S1024x128) (k0_off21 v6) S128x128.size hinb).WholeWords (EltTy.packing .bf16)) ∧
  ((k0_dev13 v6) < nD) ∧
  (∀ a, (k0_off29 v6) a + S1x128x128.size a ≤ S8x128x128.size a) ∧
  (∀ (hinb : ∀ a, (k0_off29 v6) a + S1x128x128.size a ≤ S8x128x128.size a), (Rect.unit (s := S8x128x128) (k0_off29 v6) S1x128x128.size hinb).WholeWords (EltTy.packing .bf16)) ∧
  (∀ a, (k0_off30 v6) a + S1x128x128.size a ≤ S8x128x128.size a) ∧
  (∀ a, (k0_off31 v6) a + S128x1024.size a ≤ S1024x1024.size a)
theorem k0_dev2_lt : ∀ (v6 : BitVec 32) (k0_hw2 : k0_chk2 v6), (k0_dev2 v6) < nD := fun v6 k0_hw2 => k0_hw2.1
theorem k0_off20_inb : ∀ (v6 : BitVec 32) (k0_hw2 : k0_chk2 v6), ∀ a, (k0_off20 v6) a + S1.size a ≤ S8.size a := fun v6 k0_hw2 => k0_hw2.2.1
theorem k0_off21_inb : ∀ (v6 : BitVec 32) (k0_hw2 : k0_chk2 v6), ∀ a, (k0_off21 v6) a + S128x128.size a ≤ S1024x128.size a := fun v6 k0_hw2 => k0_hw2.2.2.1
theorem k0_off21_wordsbf16 : ∀ (v6 : BitVec 32) (k0_hw2 : k0_chk2 v6), (Rect.unit (s := S1024x128) (k0_off21 v6) S128x128.size (k0_off21_inb v6 k0_hw2)).WholeWords (EltTy.packing .bf16) := fun v6 k0_hw2 => k0_hw2.2.2.2.1 (k0_off21_inb v6 k0_hw2)
theorem k0_dev13_lt : ∀ (v6 : BitVec 32) (k0_hw2 : k0_chk2 v6), (k0_dev13 v6) < nD := fun v6 k0_hw2 => k0_hw2.2.2.2.2.1
theorem k0_off29_inb : ∀ (v6 : BitVec 32) (k0_hw2 : k0_chk2 v6), ∀ a, (k0_off29 v6) a + S1x128x128.size a ≤ S8x128x128.size a := fun v6 k0_hw2 => k0_hw2.2.2.2.2.2.1
theorem k0_off29_wordsbf16 : ∀ (v6 : BitVec 32) (k0_hw2 : k0_chk2 v6), (Rect.unit (s := S8x128x128) (k0_off29 v6) S1x128x128.size (k0_off29_inb v6 k0_hw2)).WholeWords (EltTy.packing .bf16) := fun v6 k0_hw2 => k0_hw2.2.2.2.2.2.2.1 (k0_off29_inb v6 k0_hw2)
theorem k0_off30_inb : ∀ (v6 : BitVec 32) (k0_hw2 : k0_chk2 v6), ∀ a, (k0_off30 v6) a + S1x128x128.size a ≤ S8x128x128.size a := fun v6 k0_hw2 => k0_hw2.2.2.2.2.2.2.2.1
theorem k0_off31_inb : ∀ (v6 : BitVec 32) (k0_hw2 : k0_chk2 v6), ∀ a, (k0_off31 v6) a + S128x1024.size a ≤ S1024x1024.size a := fun v6 k0_hw2 => k0_hw2.2.2.2.2.2.2.2.2

def k0_off32 (v8 : BitVec 32) : Fin 3 → Nat :=
  let c0_i32_93 : BitVec 32 := 0#32
  let c0_i32_94 : BitVec 32 := 0#32
  ![v8.toNat, 0, 0]
def k0_off33 (v8 : BitVec 32) : Fin 3 → Nat :=
  let v161 : Index := Scalar.indexCast v8
  let c0_97 : Index := 0#32
  let c0_98 : Index := 0#32
  ![v161.toNat, 0, 0]
def k0_off34 (v8 : BitVec 32) : Fin 2 → Nat :=
  let c128_i32_99 : BitVec 32 := 128#32
  let v165 : BitVec 32 := Scalar.muli v8 c128_i32_99
  let v166 : Index := Scalar.indexCast v165
  let c0_100 : Index := 0#32
  ![v166.toNat, 0]

def k0_chk3 (v8 : BitVec 32) : Prop :=
  ((k0_dev3 v8) < nD) ∧
  (∀ a, (k0_off18 v8) a + S1.size a ≤ S8.size a) ∧
  (∀ a, (k0_off19 v8) a + S128x128.size a ≤ S1024x128.size a) ∧
  (∀ (hinb : ∀ a, (k0_off19 v8) a + S128x128.size a ≤ S1024x128.size a), (Rect.unit (s := S1024x128) (k0_off19 v8) S128x128.size hinb).WholeWords (EltTy.packing .bf16)) ∧
  ((k0_dev12 v8) < nD) ∧
  (∀ a, (k0_off32 v8) a + S1x128x128.size a ≤ S8x128x128.size a) ∧
  (∀ (hinb : ∀ a, (k0_off32 v8) a + S1x128x128.size a ≤ S8x128x128.size a), (Rect.unit (s := S8x128x128) (k0_off32 v8) S1x128x128.size hinb).WholeWords (EltTy.packing .bf16)) ∧
  (∀ a, (k0_off33 v8) a + S1x128x128.size a ≤ S8x128x128.size a) ∧
  (∀ a, (k0_off34 v8) a + S128x1024.size a ≤ S1024x1024.size a)
theorem k0_dev3_lt : ∀ (v8 : BitVec 32) (k0_hw3 : k0_chk3 v8), (k0_dev3 v8) < nD := fun v8 k0_hw3 => k0_hw3.1
theorem k0_off18_inb : ∀ (v8 : BitVec 32) (k0_hw3 : k0_chk3 v8), ∀ a, (k0_off18 v8) a + S1.size a ≤ S8.size a := fun v8 k0_hw3 => k0_hw3.2.1
theorem k0_off19_inb : ∀ (v8 : BitVec 32) (k0_hw3 : k0_chk3 v8), ∀ a, (k0_off19 v8) a + S128x128.size a ≤ S1024x128.size a := fun v8 k0_hw3 => k0_hw3.2.2.1
theorem k0_off19_wordsbf16 : ∀ (v8 : BitVec 32) (k0_hw3 : k0_chk3 v8), (Rect.unit (s := S1024x128) (k0_off19 v8) S128x128.size (k0_off19_inb v8 k0_hw3)).WholeWords (EltTy.packing .bf16) := fun v8 k0_hw3 => k0_hw3.2.2.2.1 (k0_off19_inb v8 k0_hw3)
theorem k0_dev12_lt : ∀ (v8 : BitVec 32) (k0_hw3 : k0_chk3 v8), (k0_dev12 v8) < nD := fun v8 k0_hw3 => k0_hw3.2.2.2.2.1
theorem k0_off32_inb : ∀ (v8 : BitVec 32) (k0_hw3 : k0_chk3 v8), ∀ a, (k0_off32 v8) a + S1x128x128.size a ≤ S8x128x128.size a := fun v8 k0_hw3 => k0_hw3.2.2.2.2.2.1
theorem k0_off32_wordsbf16 : ∀ (v8 : BitVec 32) (k0_hw3 : k0_chk3 v8), (Rect.unit (s := S8x128x128) (k0_off32 v8) S1x128x128.size (k0_off32_inb v8 k0_hw3)).WholeWords (EltTy.packing .bf16) := fun v8 k0_hw3 => k0_hw3.2.2.2.2.2.2.1 (k0_off32_inb v8 k0_hw3)
theorem k0_off33_inb : ∀ (v8 : BitVec 32) (k0_hw3 : k0_chk3 v8), ∀ a, (k0_off33 v8) a + S1x128x128.size a ≤ S8x128x128.size a := fun v8 k0_hw3 => k0_hw3.2.2.2.2.2.2.2.1
theorem k0_off34_inb : ∀ (v8 : BitVec 32) (k0_hw3 : k0_chk3 v8), ∀ a, (k0_off34 v8) a + S128x1024.size a ≤ S1024x1024.size a := fun v8 k0_hw3 => k0_hw3.2.2.2.2.2.2.2.2

def k0_off35 (v10 : BitVec 32) : Fin 3 → Nat :=
  let c0_i32_104 : BitVec 32 := 0#32
  let c0_i32_105 : BitVec 32 := 0#32
  ![v10.toNat, 0, 0]
def k0_off36 (v10 : BitVec 32) : Fin 3 → Nat :=
  let v179 : Index := Scalar.indexCast v10
  let c0_108 : Index := 0#32
  let c0_109 : Index := 0#32
  ![v179.toNat, 0, 0]
def k0_off37 (v10 : BitVec 32) : Fin 2 → Nat :=
  let c128_i32_110 : BitVec 32 := 128#32
  let v183 : BitVec 32 := Scalar.muli v10 c128_i32_110
  let v184 : Index := Scalar.indexCast v183
  let c0_111 : Index := 0#32
  ![v184.toNat, 0]

def k0_chk4 (v10 : BitVec 32) : Prop :=
  ((k0_dev4 v10) < nD) ∧
  (∀ a, (k0_off16 v10) a + S1.size a ≤ S8.size a) ∧
  (∀ a, (k0_off17 v10) a + S128x128.size a ≤ S1024x128.size a) ∧
  (∀ (hinb : ∀ a, (k0_off17 v10) a + S128x128.size a ≤ S1024x128.size a), (Rect.unit (s := S1024x128) (k0_off17 v10) S128x128.size hinb).WholeWords (EltTy.packing .bf16)) ∧
  ((k0_dev11 v10) < nD) ∧
  (∀ a, (k0_off35 v10) a + S1x128x128.size a ≤ S8x128x128.size a) ∧
  (∀ (hinb : ∀ a, (k0_off35 v10) a + S1x128x128.size a ≤ S8x128x128.size a), (Rect.unit (s := S8x128x128) (k0_off35 v10) S1x128x128.size hinb).WholeWords (EltTy.packing .bf16)) ∧
  (∀ a, (k0_off36 v10) a + S1x128x128.size a ≤ S8x128x128.size a) ∧
  (∀ a, (k0_off37 v10) a + S128x1024.size a ≤ S1024x1024.size a)
theorem k0_dev4_lt : ∀ (v10 : BitVec 32) (k0_hw4 : k0_chk4 v10), (k0_dev4 v10) < nD := fun v10 k0_hw4 => k0_hw4.1
theorem k0_off16_inb : ∀ (v10 : BitVec 32) (k0_hw4 : k0_chk4 v10), ∀ a, (k0_off16 v10) a + S1.size a ≤ S8.size a := fun v10 k0_hw4 => k0_hw4.2.1
theorem k0_off17_inb : ∀ (v10 : BitVec 32) (k0_hw4 : k0_chk4 v10), ∀ a, (k0_off17 v10) a + S128x128.size a ≤ S1024x128.size a := fun v10 k0_hw4 => k0_hw4.2.2.1
theorem k0_off17_wordsbf16 : ∀ (v10 : BitVec 32) (k0_hw4 : k0_chk4 v10), (Rect.unit (s := S1024x128) (k0_off17 v10) S128x128.size (k0_off17_inb v10 k0_hw4)).WholeWords (EltTy.packing .bf16) := fun v10 k0_hw4 => k0_hw4.2.2.2.1 (k0_off17_inb v10 k0_hw4)
theorem k0_dev11_lt : ∀ (v10 : BitVec 32) (k0_hw4 : k0_chk4 v10), (k0_dev11 v10) < nD := fun v10 k0_hw4 => k0_hw4.2.2.2.2.1
theorem k0_off35_inb : ∀ (v10 : BitVec 32) (k0_hw4 : k0_chk4 v10), ∀ a, (k0_off35 v10) a + S1x128x128.size a ≤ S8x128x128.size a := fun v10 k0_hw4 => k0_hw4.2.2.2.2.2.1
theorem k0_off35_wordsbf16 : ∀ (v10 : BitVec 32) (k0_hw4 : k0_chk4 v10), (Rect.unit (s := S8x128x128) (k0_off35 v10) S1x128x128.size (k0_off35_inb v10 k0_hw4)).WholeWords (EltTy.packing .bf16) := fun v10 k0_hw4 => k0_hw4.2.2.2.2.2.2.1 (k0_off35_inb v10 k0_hw4)
theorem k0_off36_inb : ∀ (v10 : BitVec 32) (k0_hw4 : k0_chk4 v10), ∀ a, (k0_off36 v10) a + S1x128x128.size a ≤ S8x128x128.size a := fun v10 k0_hw4 => k0_hw4.2.2.2.2.2.2.2.1
theorem k0_off37_inb : ∀ (v10 : BitVec 32) (k0_hw4 : k0_chk4 v10), ∀ a, (k0_off37 v10) a + S128x1024.size a ≤ S1024x1024.size a := fun v10 k0_hw4 => k0_hw4.2.2.2.2.2.2.2.2

def k0_off38 (v12 : BitVec 32) : Fin 3 → Nat :=
  let c0_i32_115 : BitVec 32 := 0#32
  let c0_i32_116 : BitVec 32 := 0#32
  ![v12.toNat, 0, 0]
def k0_off39 (v12 : BitVec 32) : Fin 3 → Nat :=
  let v197 : Index := Scalar.indexCast v12
  let c0_119 : Index := 0#32
  let c0_120 : Index := 0#32
  ![v197.toNat, 0, 0]
def k0_off40 (v12 : BitVec 32) : Fin 2 → Nat :=
  let c128_i32_121 : BitVec 32 := 128#32
  let v201 : BitVec 32 := Scalar.muli v12 c128_i32_121
  let v202 : Index := Scalar.indexCast v201
  let c0_122 : Index := 0#32
  ![v202.toNat, 0]

def k0_chk5 (v12 : BitVec 32) : Prop :=
  ((k0_dev5 v12) < nD) ∧
  (∀ a, (k0_off14 v12) a + S1.size a ≤ S8.size a) ∧
  (∀ a, (k0_off15 v12) a + S128x128.size a ≤ S1024x128.size a) ∧
  (∀ (hinb : ∀ a, (k0_off15 v12) a + S128x128.size a ≤ S1024x128.size a), (Rect.unit (s := S1024x128) (k0_off15 v12) S128x128.size hinb).WholeWords (EltTy.packing .bf16)) ∧
  ((k0_dev10 v12) < nD) ∧
  (∀ a, (k0_off38 v12) a + S1x128x128.size a ≤ S8x128x128.size a) ∧
  (∀ (hinb : ∀ a, (k0_off38 v12) a + S1x128x128.size a ≤ S8x128x128.size a), (Rect.unit (s := S8x128x128) (k0_off38 v12) S1x128x128.size hinb).WholeWords (EltTy.packing .bf16)) ∧
  (∀ a, (k0_off39 v12) a + S1x128x128.size a ≤ S8x128x128.size a) ∧
  (∀ a, (k0_off40 v12) a + S128x1024.size a ≤ S1024x1024.size a)
theorem k0_dev5_lt : ∀ (v12 : BitVec 32) (k0_hw5 : k0_chk5 v12), (k0_dev5 v12) < nD := fun v12 k0_hw5 => k0_hw5.1
theorem k0_off14_inb : ∀ (v12 : BitVec 32) (k0_hw5 : k0_chk5 v12), ∀ a, (k0_off14 v12) a + S1.size a ≤ S8.size a := fun v12 k0_hw5 => k0_hw5.2.1
theorem k0_off15_inb : ∀ (v12 : BitVec 32) (k0_hw5 : k0_chk5 v12), ∀ a, (k0_off15 v12) a + S128x128.size a ≤ S1024x128.size a := fun v12 k0_hw5 => k0_hw5.2.2.1
theorem k0_off15_wordsbf16 : ∀ (v12 : BitVec 32) (k0_hw5 : k0_chk5 v12), (Rect.unit (s := S1024x128) (k0_off15 v12) S128x128.size (k0_off15_inb v12 k0_hw5)).WholeWords (EltTy.packing .bf16) := fun v12 k0_hw5 => k0_hw5.2.2.2.1 (k0_off15_inb v12 k0_hw5)
theorem k0_dev10_lt : ∀ (v12 : BitVec 32) (k0_hw5 : k0_chk5 v12), (k0_dev10 v12) < nD := fun v12 k0_hw5 => k0_hw5.2.2.2.2.1
theorem k0_off38_inb : ∀ (v12 : BitVec 32) (k0_hw5 : k0_chk5 v12), ∀ a, (k0_off38 v12) a + S1x128x128.size a ≤ S8x128x128.size a := fun v12 k0_hw5 => k0_hw5.2.2.2.2.2.1
theorem k0_off38_wordsbf16 : ∀ (v12 : BitVec 32) (k0_hw5 : k0_chk5 v12), (Rect.unit (s := S8x128x128) (k0_off38 v12) S1x128x128.size (k0_off38_inb v12 k0_hw5)).WholeWords (EltTy.packing .bf16) := fun v12 k0_hw5 => k0_hw5.2.2.2.2.2.2.1 (k0_off38_inb v12 k0_hw5)
theorem k0_off39_inb : ∀ (v12 : BitVec 32) (k0_hw5 : k0_chk5 v12), ∀ a, (k0_off39 v12) a + S1x128x128.size a ≤ S8x128x128.size a := fun v12 k0_hw5 => k0_hw5.2.2.2.2.2.2.2.1
theorem k0_off40_inb : ∀ (v12 : BitVec 32) (k0_hw5 : k0_chk5 v12), ∀ a, (k0_off40 v12) a + S128x1024.size a ≤ S1024x1024.size a := fun v12 k0_hw5 => k0_hw5.2.2.2.2.2.2.2.2

def k0_off41 (v14 : BitVec 32) : Fin 3 → Nat :=
  let c0_i32_126 : BitVec 32 := 0#32
  let c0_i32_127 : BitVec 32 := 0#32
  ![v14.toNat, 0, 0]
def k0_off42 (v14 : BitVec 32) : Fin 3 → Nat :=
  let v215 : Index := Scalar.indexCast v14
  let c0_130 : Index := 0#32
  let c0_131 : Index := 0#32
  ![v215.toNat, 0, 0]
def k0_off43 (v14 : BitVec 32) : Fin 2 → Nat :=
  let c128_i32_132 : BitVec 32 := 128#32
  let v219 : BitVec 32 := Scalar.muli v14 c128_i32_132
  let v220 : Index := Scalar.indexCast v219
  let c0_133 : Index := 0#32
  ![v220.toNat, 0]

def k0_chk6 (v14 : BitVec 32) : Prop :=
  ((k0_dev6 v14) < nD) ∧
  (∀ a, (k0_off12 v14) a + S1.size a ≤ S8.size a) ∧
  (∀ a, (k0_off13 v14) a + S128x128.size a ≤ S1024x128.size a) ∧
  (∀ (hinb : ∀ a, (k0_off13 v14) a + S128x128.size a ≤ S1024x128.size a), (Rect.unit (s := S1024x128) (k0_off13 v14) S128x128.size hinb).WholeWords (EltTy.packing .bf16)) ∧
  ((k0_dev9 v14) < nD) ∧
  (∀ a, (k0_off41 v14) a + S1x128x128.size a ≤ S8x128x128.size a) ∧
  (∀ (hinb : ∀ a, (k0_off41 v14) a + S1x128x128.size a ≤ S8x128x128.size a), (Rect.unit (s := S8x128x128) (k0_off41 v14) S1x128x128.size hinb).WholeWords (EltTy.packing .bf16)) ∧
  (∀ a, (k0_off42 v14) a + S1x128x128.size a ≤ S8x128x128.size a) ∧
  (∀ a, (k0_off43 v14) a + S128x1024.size a ≤ S1024x1024.size a)
theorem k0_dev6_lt : ∀ (v14 : BitVec 32) (k0_hw6 : k0_chk6 v14), (k0_dev6 v14) < nD := fun v14 k0_hw6 => k0_hw6.1
theorem k0_off12_inb : ∀ (v14 : BitVec 32) (k0_hw6 : k0_chk6 v14), ∀ a, (k0_off12 v14) a + S1.size a ≤ S8.size a := fun v14 k0_hw6 => k0_hw6.2.1
theorem k0_off13_inb : ∀ (v14 : BitVec 32) (k0_hw6 : k0_chk6 v14), ∀ a, (k0_off13 v14) a + S128x128.size a ≤ S1024x128.size a := fun v14 k0_hw6 => k0_hw6.2.2.1
theorem k0_off13_wordsbf16 : ∀ (v14 : BitVec 32) (k0_hw6 : k0_chk6 v14), (Rect.unit (s := S1024x128) (k0_off13 v14) S128x128.size (k0_off13_inb v14 k0_hw6)).WholeWords (EltTy.packing .bf16) := fun v14 k0_hw6 => k0_hw6.2.2.2.1 (k0_off13_inb v14 k0_hw6)
theorem k0_dev9_lt : ∀ (v14 : BitVec 32) (k0_hw6 : k0_chk6 v14), (k0_dev9 v14) < nD := fun v14 k0_hw6 => k0_hw6.2.2.2.2.1
theorem k0_off41_inb : ∀ (v14 : BitVec 32) (k0_hw6 : k0_chk6 v14), ∀ a, (k0_off41 v14) a + S1x128x128.size a ≤ S8x128x128.size a := fun v14 k0_hw6 => k0_hw6.2.2.2.2.2.1
theorem k0_off41_wordsbf16 : ∀ (v14 : BitVec 32) (k0_hw6 : k0_chk6 v14), (Rect.unit (s := S8x128x128) (k0_off41 v14) S1x128x128.size (k0_off41_inb v14 k0_hw6)).WholeWords (EltTy.packing .bf16) := fun v14 k0_hw6 => k0_hw6.2.2.2.2.2.2.1 (k0_off41_inb v14 k0_hw6)
theorem k0_off42_inb : ∀ (v14 : BitVec 32) (k0_hw6 : k0_chk6 v14), ∀ a, (k0_off42 v14) a + S1x128x128.size a ≤ S8x128x128.size a := fun v14 k0_hw6 => k0_hw6.2.2.2.2.2.2.2.1
theorem k0_off43_inb : ∀ (v14 : BitVec 32) (k0_hw6 : k0_chk6 v14), ∀ a, (k0_off43 v14) a + S128x1024.size a ≤ S1024x1024.size a := fun v14 k0_hw6 => k0_hw6.2.2.2.2.2.2.2.2

def k0_off44 (v16 : BitVec 32) : Fin 3 → Nat :=
  let c0_i32_137 : BitVec 32 := 0#32
  let c0_i32_138 : BitVec 32 := 0#32
  ![v16.toNat, 0, 0]
def k0_off45 (v16 : BitVec 32) : Fin 3 → Nat :=
  let v233 : Index := Scalar.indexCast v16
  let c0_141 : Index := 0#32
  let c0_142 : Index := 0#32
  ![v233.toNat, 0, 0]
def k0_off46 (v16 : BitVec 32) : Fin 2 → Nat :=
  let c128_i32_143 : BitVec 32 := 128#32
  let v237 : BitVec 32 := Scalar.muli v16 c128_i32_143
  let v238 : Index := Scalar.indexCast v237
  let c0_144 : Index := 0#32
  ![v238.toNat, 0]

def k0_chk7 (v16 : BitVec 32) : Prop :=
  ((k0_dev7 v16) < nD) ∧
  (∀ a, (k0_off8 v16) a + S1.size a ≤ S8.size a) ∧
  (∀ a, (k0_off11 v16) a + S128x128.size a ≤ S1024x128.size a) ∧
  (∀ (hinb : ∀ a, (k0_off11 v16) a + S128x128.size a ≤ S1024x128.size a), (Rect.unit (s := S1024x128) (k0_off11 v16) S128x128.size hinb).WholeWords (EltTy.packing .bf16)) ∧
  ((k0_dev8 v16) < nD) ∧
  (∀ a, (k0_off44 v16) a + S1x128x128.size a ≤ S8x128x128.size a) ∧
  (∀ (hinb : ∀ a, (k0_off44 v16) a + S1x128x128.size a ≤ S8x128x128.size a), (Rect.unit (s := S8x128x128) (k0_off44 v16) S1x128x128.size hinb).WholeWords (EltTy.packing .bf16)) ∧
  (∀ a, (k0_off45 v16) a + S1x128x128.size a ≤ S8x128x128.size a) ∧
  (∀ a, (k0_off46 v16) a + S128x1024.size a ≤ S1024x1024.size a)
theorem k0_dev7_lt : ∀ (v16 : BitVec 32) (k0_hw7 : k0_chk7 v16), (k0_dev7 v16) < nD := fun v16 k0_hw7 => k0_hw7.1
theorem k0_off8_inb : ∀ (v16 : BitVec 32) (k0_hw7 : k0_chk7 v16), ∀ a, (k0_off8 v16) a + S1.size a ≤ S8.size a := fun v16 k0_hw7 => k0_hw7.2.1
theorem k0_off11_inb : ∀ (v16 : BitVec 32) (k0_hw7 : k0_chk7 v16), ∀ a, (k0_off11 v16) a + S128x128.size a ≤ S1024x128.size a := fun v16 k0_hw7 => k0_hw7.2.2.1
theorem k0_off11_wordsbf16 : ∀ (v16 : BitVec 32) (k0_hw7 : k0_chk7 v16), (Rect.unit (s := S1024x128) (k0_off11 v16) S128x128.size (k0_off11_inb v16 k0_hw7)).WholeWords (EltTy.packing .bf16) := fun v16 k0_hw7 => k0_hw7.2.2.2.1 (k0_off11_inb v16 k0_hw7)
theorem k0_dev8_lt : ∀ (v16 : BitVec 32) (k0_hw7 : k0_chk7 v16), (k0_dev8 v16) < nD := fun v16 k0_hw7 => k0_hw7.2.2.2.2.1
theorem k0_off44_inb : ∀ (v16 : BitVec 32) (k0_hw7 : k0_chk7 v16), ∀ a, (k0_off44 v16) a + S1x128x128.size a ≤ S8x128x128.size a := fun v16 k0_hw7 => k0_hw7.2.2.2.2.2.1
theorem k0_off44_wordsbf16 : ∀ (v16 : BitVec 32) (k0_hw7 : k0_chk7 v16), (Rect.unit (s := S8x128x128) (k0_off44 v16) S1x128x128.size (k0_off44_inb v16 k0_hw7)).WholeWords (EltTy.packing .bf16) := fun v16 k0_hw7 => k0_hw7.2.2.2.2.2.2.1 (k0_off44_inb v16 k0_hw7)
theorem k0_off45_inb : ∀ (v16 : BitVec 32) (k0_hw7 : k0_chk7 v16), ∀ a, (k0_off45 v16) a + S1x128x128.size a ≤ S8x128x128.size a := fun v16 k0_hw7 => k0_hw7.2.2.2.2.2.2.2.1
theorem k0_off46_inb : ∀ (v16 : BitVec 32) (k0_hw7 : k0_chk7 v16), ∀ a, (k0_off46 v16) a + S128x1024.size a ≤ S1024x1024.size a := fun v16 k0_hw7 => k0_hw7.2.2.2.2.2.2.2.2

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8x7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Peers.lean ====
/-
# The table of peers

Every device reads seven words of a constant table: the devices it talks to, in the order it talks to them.  This
module names them, shows that a row lists every other device exactly once, and puts each address that the kernel
computes from a word of the table — a device, a semaphore index, a row, a slot — into closed form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Exchange

open Cert.KernelIdeal Cert.KernelIdeal.Gen
open Idealize.ShloMosaic Idealize.ShloMosaic.TcCoe

/-- The device that device `c` talks to at step `s`. -/
def peer : Dev nD → Fin 7 → Dev nD :=
  ![![1, 3, 4, 2, 5, 7, 6], ![0, 2, 5, 3, 4, 6, 7], ![1, 3, 6, 0, 5, 7, 4], ![0, 2, 7, 1, 4, 6, 5],
    ![0, 5, 7, 1, 3, 6, 2], ![1, 4, 6, 0, 2, 7, 3], ![2, 5, 7, 1, 3, 4, 0], ![3, 4, 6, 0, 2, 5, 1]]

/-- The peers of device `c`, in the order of the steps. -/
abbrev peers (c : Dev nD) : List (Dev nD) :=
  [peer c 0, peer c 1, peer c 2, peer c 3, peer c 4, peer c 5, peer c 6]

/-- The peers in the opposite order, the order of the transfers. -/
abbrev sreep (c : Dev nD) : List (Dev nD) :=
  [peer c 6, peer c 5, peer c 4, peer c 3, peer c 2, peer c 1, peer c 0]

theorem peer_ne (c : Dev nD) (s : Fin 7) : peer c s ≠ c := by revert c s; decide
theorem peers_nodup (c : Dev nD) : (peers c).Nodup := by revert c; decide
theorem sreep_nodup (c : Dev nD) : (sreep c).Nodup := by revert c; decide
/-- The peers are all the other devices. -/
theorem peers_all (c : Dev nD) : (peers c).toFinset = Finset.univ.erase c := by revert c; decide
theorem sreep_all (c : Dev nD) : (sreep c).toFinset = Finset.univ.erase c := by revert c; decide

/-- The word that names device `j` in the table. -/
abbrev wd (j : Dev nD) : BitVec 32 := BitVec.ofNat 32 j.val

/-- The table's index of step `s` in the row of device `c`. -/
def cell (c : Dev nD) (s : Fin 7) : S8x7.Idx := fun a =>
  match a with
  | ⟨0, _⟩ => ⟨c.val, c.isLt⟩
  | ⟨1, _⟩ => ⟨s.val, s.isLt⟩

/-- The constant table, as a buffer's contents. -/
def table : S8x7.Idx → BitVec 32 := fun i => lit0 (S8x7.rowMajor i)

theorem table_cell (c : Dev nD) (s : Fin 7) : table (cell c s) = wd (peer c s) := by
  revert c s; decide

/-! ## What the kernel computes from the word of a device -/

theorem sem_wd (j : Dev nD) : k0_off22 (wd j) = ![j.val] := by revert j; decide
theorem row_wd (j : Dev nD) : k0_off23 (wd j) = ![128 * j.val, 0] := by revert j; decide
theorem slot_wd (j : Dev nD) : k0_off26 (wd j) = ![j.val, 0, 0] := by revert j; decide
theorem slotLoad_wd (j : Dev nD) : k0_off27 (wd j) = ![j.val, 0, 0] := by revert j; decide
theorem wrow_wd (j : Dev nD) : k0_off28 (wd j) = ![128 * j.val, 0] := by revert j; decide
theorem sigDev_wd (j : Dev nD) : k0_dev1 (wd j) = j.val := by revert j; decide
theorem sendDev_wd (j : Dev nD) : k0_dev14 (wd j) = j.val := by revert j; decide

/-- The conditions that the body assumes of a word of the table hold of the word of a device. -/
theorem chk_wd (j : Dev nD) : k0_chk1 (wd j) := by
  refine ⟨by rw [sigDev_wd]; exact j.isLt, ?_, ?_, ?_, by rw [sendDev_wd]; exact j.isLt, ?_, ?_, ?_, ?_⟩
  · revert j; decide
  · revert j; decide
  · intro h; revert j; decide
  · revert j; decide
  · intro h; revert j; decide
  · revert j; decide
  · revert j; decide

/-- The seven conditions are one condition. -/
theorem chk_same (v : BitVec 32) (h : k0_chk1 v) :
    k0_chk2 v ∧ k0_chk3 v ∧ k0_chk4 v ∧ k0_chk5 v ∧ k0_chk6 v ∧ k0_chk7 v :=
  ⟨h, h, h, h, h, h⟩

/-! ## The sizes of the accesses -/

theorem sem_inb (j : Dev nD) : ∀ a, (![j.val] : Fin 1 → ℕ) a + S1.size a ≤ S8.size a := by revert j; decide
theorem row_inb (j : Dev nD) : ∀ a, (![128 * j.val, 0] : Fin 2 → ℕ) a + S128x128.size a ≤ S1024x128.size a := by
  revert j; decide
theorem slot_inb (j : Dev nD) : ∀ a, (![j.val, 0, 0] : Fin 3 → ℕ) a + S1x128x128.size a ≤ S8x128x128.size a := by
  revert j; decide
theorem wrow_inb (j : Dev nD) : ∀ a, (![128 * j.val, 0] : Fin 2 → ℕ) a + S128x1024.size a ≤ S1024x1024.size a := by
  revert j; decide

/-- The semaphore that device `j` names among the eight of a row of semaphores. -/
abbrev semAt (A : DmaSems sig S8) (j : Dev nD) : DmaSem sig :=
  ((A.slice (Rect.unit (s := S8) ![j.val] S1.size (sem_inb j))).squeeze S_ squeezes_S1_S_).sem

/-- The rows of the rounded block that go to device `j`. -/
abbrev rowM (j : Dev nD) : Memref sig .tc .vmem S128x128 .bf16 :=
  (Memref.whole cc0_scratch0).slice (Rect.unit (s := S1024x128) ![128 * j.val, 0] S128x128.size (row_inb j)) (fun _ => rfl)

/-- The slot that device `j` fills. -/
abbrev slotM (j : Dev nD) : Memref sig .tc .vmem S128x128 .bf16 :=
  ((Memref.whole cc0_scratch1).slice (Rect.unit (s := S8x128x128) ![j.val, 0, 0] S1x128x128.size (slot_inb j))
    (fun _ => rfl)).squeeze S128x128 squeezes_S1x128x128_S128x128

/-! ## Memrefs and semaphores at an offset that is known -/

theorem semAt_eq (A : DmaSems sig S8) (j : Dev nD) {off : Fin 1 → ℕ} (h : off = ![j.val])
    (inb : ∀ a, off a + S1.size a ≤ S8.size a) :
    ((A.slice (Rect.unit (s := S8) off S1.size inb)).squeeze S_ squeezes_S1_S_).sem = semAt A j := by
  subst h; rfl

theorem rowM_eq (j : Dev nD) {off : Fin 2 → ℕ} (h : off = ![128 * j.val, 0])
    (inb : ∀ a, off a + S128x128.size a ≤ S1024x128.size a) :
    (Memref.whole cc0_scratch0).slice (Rect.unit (s := S1024x128) off S128x128.size inb) (fun _ => rfl) = rowM j := by
  subst h; rfl

theorem slotM_eq (j : Dev nD) {off : Fin 3 → ℕ} (h : off = ![j.val, 0, 0])
    (inb : ∀ a, off a + S1x128x128.size a ≤ S8x128x128.size a) :
    ((Memref.whole cc0_scratch1).slice (Rect.unit (s := S8x128x128) off S1x128x128.size inb)
      (fun _ => rfl)).squeeze S128x128 squeezes_S1x128x128_S128x128 = slotM j := by
  subst h; rfl

theorem dev_eq (j : Dev nD) {n : ℕ} (h : n = j.val) (hn : n < nD) : (⟨n, hn⟩ : Dev nD) = j := Fin.ext h

/-- The semaphores of the outgoing transfers are numbers 4 to 11 of the core's transfer semaphores, -/
theorem sendSem_val (j : Dev nD) : (semAt cc0_scratch2 j).val = 4 + j.val := by revert j; decide
/-- and those of the incoming ones numbers 12 to 19. -/
theorem recvSem_val (j : Dev nD) : (semAt cc0_scratch3 j).val = 12 + j.val := by revert j; decide

end Cert.Exchange

end

end
-- ==== Proof.Protocol.lean ====
/-
# The exchange's protocol

The cells through which the devices talk, what each of them hands over, the order in which they may be waited for,
and how the two scratch buffers are cut into the blocks that travel.
-/
module

public import proofs.«01_k».proof.Proof.Peers
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Scf
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging's rounds, and the exchange's, whose duties are named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-! ## The cells -/

/-- The barrier semaphore of device `c`, -/
abbrev barCell (c : Dev nD) : GSem nD τ sig := ((c : Thread nD τ), .reg barrier0)
/-- the semaphore that counts the departure of its transfer to `j`, -/
abbrev sendCell (c j : Dev nD) : GSem nD τ sig := ((c : Thread nD τ), .dma (semAt cc0_scratch2 j))
/-- and the one that counts the arrival of the transfer from `j`. -/
abbrev recvCell (c j : Dev nD) : GSem nD τ sig := ((c : Thread nD τ), .dma (semAt cc0_scratch3 j))

/-- What one transfer credits. -/
abbrev N : ℕ := (slotM 0).view.dmaCredit
theorem N_pos : 0 < N := View.dmaCredit_pos _ (by decide)
theorem slot_credit (j : Dev nD) : (slotM j).view.dmaCredit = N := rfl
theorem row_credit (j : Dev nD) : (rowM j).view.dmaCredit = N := rfl

/-! ## What the cells hand over -/

/-- Slot `j` of device `c`, at contents not named. -/
def slotAny (c j : Dev nD) : sProp 𝕄 :=
  iprop(∃ f : Buf (Elt F) ((slotM j).view.loc (c : Thread nD τ)), (slotM j).view.loc (c : Thread nD τ) ↦[(slotM j).view.set]{fullShare} f)

variable (xb : Dev nD → (cc0_scratch0 : Ref sig .tc).ty.Contents (Elt F))

/-- Slot `j` of device `c`, filled with the rows that `j` rounded for `c`. -/
def slotFull (c j : Dev nD) : sProp 𝕄 :=
  owns (c : Thread nD τ) (slotM j) fullShare ((rowM c).view.read (Elt F) (xb j))
/-- The rows that device `c` rounded for `j`. -/
def rowPts (c j : Dev nD) : sProp 𝕄 :=
  (rowM j).view.loc (c : Thread nD τ) ↦[(rowM j).view.set]{fullShare} xb c

omit [FloatOps F] in
theorem slotAny_intro (c j : Dev nD) (f : Buf (Elt F) ((slotM j).view.loc (c : Thread nD τ))) :
    ((slotM j).view.loc (c : Thread nD τ) ↦[(slotM j).view.set]{fullShare} f : sProp 𝕄) ⊢ slotAny c j := by
  unfold slotAny
  iintro H; iexists f; iexact H

instance slotAny_storable (c j : Dev nD) : BI.Storable (upEmb : UEmb _ 𝕄) (slotAny (F := F) c j) := by
  unfold slotAny; infer_instance
instance rowPts_storable (c j : Dev nD) : BI.Storable (upEmb : UEmb _ 𝕄) (rowPts (F := F) xb c j) := by
  unfold rowPts; infer_instance
instance slotFull_storable (c j : Dev nD) : BI.Storable (upEmb : UEmb _ 𝕄) (slotFull (F := F) xb c j) := by
  unfold slotFull; infer_instance

/-- The device that a transfer semaphore names, among the eight from number `k`. -/
def devOf (q : DmaSem sig) (k : ℕ) : Dev nD := if h : q.val - k < nD then ⟨q.val - k, h⟩ else 0

theorem devOf_send (j : Dev nD) : devOf (semAt cc0_scratch2 j) 4 = j := by
  unfold devOf
  rw [dif_pos (by rw [sendSem_val, Nat.add_sub_cancel_left]; exact j.isLt)]
  exact Fin.ext (by show (semAt cc0_scratch2 j).val - 4 = j.val; rw [sendSem_val, Nat.add_sub_cancel_left])
theorem devOf_recv (j : Dev nD) : devOf (semAt cc0_scratch3 j) 12 = j := by
  unfold devOf
  rw [dif_pos (by rw [recvSem_val, Nat.add_sub_cancel_left]; exact j.isLt)]
  exact Fin.ext (by show (semAt cc0_scratch3 j).val - 12 = j.val; rw [recvSem_val, Nat.add_sub_cancel_left])

/-- Who pays at a cell of device `c`: all the others at its barrier, itself at a departure, the sender at an arrival. -/
def payers (c : Dev nD) : SemLoc sig → Finset (Dev nD)
  | .reg _ => Finset.univ.erase c
  | .dma q =>
    if q.val < 4 then ∅
    else if q.val < 12 then (if devOf q 4 = c then ∅ else {c})
    else (if devOf q 12 = c then ∅ else {devOf q 12})

/-- What the payer `d` hands over at a cell of device `c`: at the barrier the slot it keeps for `c`, ready to be
    filled; at a departure the rows that were read; at an arrival the slot that was filled. -/
def handed (c d : Dev nD) : SemLoc sig → sProp 𝕄
  | .reg _ => iprop(slotAny d c ∗ reached ER (recvCell d c) 0)
  | .dma q => if q.val < 12 then rowPts xb c (devOf q 4) else slotFull xb c (devOf q 12)

/-- The schedule: one round, at the cells of the cores. -/
def sched : Rounds.Schedule (GSem nD τ sig) (Dev nD) 𝕄 where
  duties g r := if r = 0 ∧ g.1.2 = .tc then payers g.1.1 g.2 else ∅
  unitless _ := False
  amount g _ _ := match g.2 with
    | .reg _ => 1
    | .dma _ => N
  payload g _ d := handed xb g.1.1 d g.2
  amount_pos g _ _ _ := by
    obtain ⟨t, s⟩ := g
    cases s
    · exact Nat.one_pos
    · exact N_pos

instance sched_storable (g : GSem nD τ sig) (r : ℕ) (d : Dev nD) :
    BI.Storable (upEmb : UEmb _ 𝕄) ((sched (F := F) xb).payload g r d) := by
  obtain ⟨t, s⟩ := g
  show BI.Storable upEmb (handed xb t.1 d s)
  unfold handed
  (repeat' split) <;> infer_instance

section Sched

variable (c j d : Dev nD)

theorem duties_bar : (sched xb).duties (barCell c) 0 = Finset.univ.erase c := by
  dsimp only [sched]; exact if_pos ⟨rfl, rfl⟩
theorem payers_send (h : j ≠ c) : payers c (.dma (semAt cc0_scratch2 j)) = {c} := by
  show (if (semAt cc0_scratch2 j).val < 4 then _ else if (semAt cc0_scratch2 j).val < 12 then _ else _) = _
  rw [if_neg (by rw [sendSem_val]; omega), if_pos (by rw [sendSem_val]; have : j.val < 8 := j.isLt; omega), devOf_send,
    if_neg h]
theorem payers_recv (h : j ≠ c) : payers c (.dma (semAt cc0_scratch3 j)) = {j} := by
  show (if (semAt cc0_scratch3 j).val < 4 then _ else if (semAt cc0_scratch3 j).val < 12 then _ else _) = _
  rw [if_neg (by rw [recvSem_val]; omega), if_neg (by rw [recvSem_val]; omega), devOf_recv, if_neg h]
theorem duties_send (h : j ≠ c) : (sched xb).duties (sendCell c j) 0 = {c} := by
  dsimp only [sched]; rw [if_pos ⟨rfl, rfl⟩]; exact payers_send c j h
theorem duties_recv (h : j ≠ c) : (sched xb).duties (recvCell c j) 0 = {j} := by
  dsimp only [sched]; rw [if_pos ⟨rfl, rfl⟩]; exact payers_recv c j h
theorem duties_later (g : GSem nD τ sig) : ∀ r, 1 ≤ r → (sched xb).duties g r = ∅ :=
  fun r hr => by dsimp only [sched]; exact if_neg fun h => by omega

theorem expect_bar : (sched xb).expect (barCell c) 0 = 7 := by
  unfold Schedule.expect Schedule.amountOf
  rw [duties_bar]
  show ∑ _ ∈ Finset.univ.erase c, 1 = 7
  rw [Finset.sum_const, Finset.card_erase_of_mem (Finset.mem_univ c)]
  rfl
theorem expect_send (h : j ≠ c) : (sched xb).expect (sendCell c j) 0 = N := by
  unfold Schedule.expect Schedule.amountOf; rw [duties_send xb c j h, Finset.sum_singleton]; rfl
theorem expect_recv (h : j ≠ c) : (sched xb).expect (recvCell c j) 0 = N := by
  unfold Schedule.expect Schedule.amountOf; rw [duties_recv xb c j h, Finset.sum_singleton]; rfl

theorem payload_bar : (sched xb).payload (barCell c) 0 d = (iprop(slotAny d c ∗ reached ER (recvCell d c) 0) : sProp 𝕄) := rfl
theorem payload_send : (sched xb).payload (sendCell c j) 0 d = (rowPts xb c j : sProp 𝕄) := by
  show (if (semAt cc0_scratch2 j).val < 12 then _ else _) = _
  rw [if_pos (by rw [sendSem_val]; have : j.val < 8 := j.isLt; omega), devOf_send]
theorem payload_recv : (sched xb).payload (recvCell c j) 0 d = (slotFull xb c j : sProp 𝕄) := by
  show (if (semAt cc0_scratch3 j).val < 12 then _ else _) = _
  rw [if_neg (by rw [recvSem_val]; omega), devOf_recv]

theorem rest_bar : bigSep ((sched xb).duties (barCell c) 0 \ ∅) (fun u => (sched xb).payload (barCell c) 0 u)
    = (bigSepL (sreep c) (fun d => iprop(slotAny d c ∗ reached ER (recvCell d c) 0)) : sProp 𝕄) := by
  rw [Finset.sdiff_empty, duties_bar, bigSep_eq_bigSepL_of_eq (sreep c) (sreep_all c).symm (sreep_nodup c)]
  rfl
theorem rest_send (h : j ≠ c) :
    bigSep ((sched xb).duties (sendCell c j) 0 \ ∅) (fun u => (sched xb).payload (sendCell c j) 0 u) = (rowPts xb c j : sProp 𝕄) := by
  rw [Finset.sdiff_empty, duties_send xb c j h, bigSep_singleton, payload_send]
theorem rest_recv (h : j ≠ c) :
    bigSep ((sched xb).duties (recvCell c j) 0 \ ∅) (fun u => (sched xb).payload (recvCell c j) 0 u) = (slotFull xb c j : sProp 𝕄) := by
  rw [Finset.sdiff_empty, duties_recv xb c j h, bigSep_singleton, payload_recv]

end Sched

/-! ## What the devices owe, and the order of the waits -/

/-- What device `c` owes for the transfers to the devices of a list, -/
def owedRec (c : Dev nD) : List (Dev nD) → CellTallies nD τ sig Unit
  | [] => 0
  | j :: l => owedRec c l + tallyAt (recvCell j c) () N
/-- and for the signals to the devices of a list as well. -/
def owedBar (O : CellTallies nD τ sig Unit) : List (Dev nD) → CellTallies nD τ sig Unit
  | [] => O
  | j :: l => owedBar O l + tallyAt (barCell j) () 1
/-- What device `c` owes at the start. -/
def O₀ (c : Dev nD) : CellTallies nD τ sig Unit := owedBar (owedRec c (sreep c)) (peers c)

theorem owedRec_pos {c : Dev nD} {l : List (Dev nD)} {g : GSem nD τ sig} {u : Unit} (h : 0 < owedRec c l g u) :
    ∃ j, g = recvCell j c := by
  induction l with
  | nil => exact absurd h (Nat.lt_irrefl 0)
  | cons j l ih =>
    by_cases hg : g = recvCell j c ∧ u = ()
    · exact ⟨j, hg.1⟩
    · refine ih ?_
      have h' : 0 < owedRec c l g u + tallyAt (recvCell j c) () N g u := h
      rw [tallyAt_apply, if_neg hg] at h'; exact h'
theorem owedBar_pos {O : CellTallies nD τ sig Unit} {l : List (Dev nD)} {g : GSem nD τ sig} {u : Unit} (h : 0 < owedBar O l g u) :
    0 < O g u ∨ ∃ j, g = barCell j := by
  induction l with
  | nil => exact .inl h
  | cons j l ih =>
    by_cases hg : g = barCell j ∧ u = ()
    · exact .inr ⟨j, hg.1⟩
    · refine ih ?_
      have h' : 0 < owedBar O l g u + tallyAt (barCell j) () 1 g u := h
      rw [tallyAt_apply, if_neg hg] at h'; exact h'
theorem O₀_pos {c : Dev nD} {g : GSem nD τ sig} {u : Unit} (h : 0 < O₀ c g u) :
    (∃ j, g = recvCell j c) ∨ ∃ j, g = barCell j :=
  (owedBar_pos h).imp_left owedRec_pos

def L (g : GSem nD τ sig) : Finset Unit := if g.1.2 = .tc then {()} else ∅
/-- The barriers at 1, the arrivals at 2, the rest at 0. -/
def lv (g : GSem nD τ sig) (_ : Unit) : ℕ := match g.2 with
  | .reg _ => 1
  | .dma q => if q.val < 12 then 0 else 2
theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := by
  show (if (semAt cc0_scratch3 j).val < 12 then 0 else 2) = 2
  rw [if_neg (by rw [recvSem_val]; omega)]

/-- At the barrier only transfers are owed, and they come later. -/
theorem mayWait_bar (c : Dev nD) (l : List (Dev nD)) :
    (levAts L lv : sProp 𝕄) ⊢ MayWait (c : Thread nD τ) (.reg barrier0) () (owedRec c l) :=
  MayOwe.of_cut (L := L) (lev := lv) 1
    (fun p hp => by rw [Finset.mem_singleton.mp hp, L_tc]; exact Finset.mem_singleton_self _)
    (fun g u hg => by obtain ⟨j, rfl⟩ := owedRec_pos hg; rw [L_tc]; exact Finset.mem_singleton_self _)
    (fun p hp => by rw [Finset.mem_singleton.mp hp]; exact Nat.le_refl 1)
    (fun g u hg => by obtain ⟨j, rfl⟩ := owedRec_pos hg; rw [lv_recv]; decide)

/-! ## The blocks of the scratch buffers -/

theorem row_set (j : Dev nD) :
    (rowM j).view.set = (Rect.unit (s := S1024x128) ![128 * j.val, 0] S128x128.size (row_inb j)).set :=
  View.set_slice_whole _ _
theorem slot_set (j : Dev nD) :
    (slotM j).view.set = (Rect.unit (s := S8x128x128) ![j.val, 0, 0] S1x128x128.size (slot_inb j)).set :=
  (View.set_reshape _ _).trans (View.set_slice_whole _ _)

/-- The elements of a block of rows, and those of a slot. -/
abbrev rowSet (j : Dev nD) : Finset S1024x128.Idx := (rowM j).view.set
abbrev slotSet (j : Dev nD) : Finset S8x128x128.Idx := (slotM j).view.set

theorem row_disjoint (b b' : Dev nD) (h : b ≠ b') : Disjoint (rowM b).view.set (rowM b').view.set := by
  rw [row_set, row_set]
  exact Ring.lead_disjoint (s := S1024x128) 0 128 (fun b : Fin 8 => ![128 * b.val, 0]) S128x128.size row_inb (fun _ => rfl) rfl b b' h
theorem row_cover : Finset.univ.biUnion rowSet = Finset.univ := by
  rw [show rowSet = fun b => (Rect.unit (s := S1024x128) ![128 * b.val, 0] S128x128.size (row_inb b)).set from funext row_set]
  refine Ring.lead_cover (s := S1024x128) 0 128 (fun b : Fin 8 => ![128 * b.val, 0]) S128x128.size row_inb (fun _ => rfl) ?_ rfl ?_ ?_
  · intro b a ha; fin_cases a
    · exact absurd rfl ha
    · rfl
  · intro a ha; fin_cases a
    · exact absurd rfl ha
    · rfl
  · decide
theorem slot_disjoint (b b' : Dev nD) (h : b ≠ b') : Disjoint (slotM b).view.set (slotM b').view.set := by
  rw [slot_set, slot_set]
  exact Ring.lead_disjoint (s := S8x128x128) 0 1 (fun b : Fin 8 => ![b.val, 0, 0]) S1x128x128.size slot_inb
    (fun b => (Nat.one_mul _).symm) rfl b b' h
theorem slot_cover : Finset.univ.biUnion slotSet = Finset.univ := by
  rw [show slotSet = fun b => (Rect.unit (s := S8x128x128) ![b.val, 0, 0] S1x128x128.size (slot_inb b)).set from funext slot_set]
  refine Ring.lead_cover (s := S8x128x128) 0 1 (fun b : Fin 8 => ![b.val, 0, 0]) S1x128x128.size slot_inb
    (fun b => (Nat.one_mul _).symm) ?_ rfl ?_ ?_
  · intro b a ha; fin_cases a
    · exact absurd rfl ha
    · rfl
    · rfl
  · intro a ha; fin_cases a
    · exact absurd rfl ha
    · rfl
    · rfl
  · decide

/-- The rounded block, held whole, is its eight blocks of rows. -/
theorem rows_eq (c : Dev nD) :
    (((c : Thread nD τ).loc cc0_scratch0) ↦{fullShare} xb c : sProp 𝕄) = bigSep Finset.univ fun j => rowPts xb c j :=
  Ring.pointsTo_blocks (ℓ := (c : Thread nD τ).loc cc0_scratch0) rowSet row_disjoint row_cover (xb c)
/-- The buffer of slots, held whole, is its eight slots, -/
theorem slots_split (c : Dev nD) (f : Buf (Elt F) ((c : Thread nD τ).loc cc0_scratch1)) :
    (((c : Thread nD τ).loc cc0_scratch1) ↦{fullShare} f : sProp 𝕄) ⊢ bigSep Finset.univ fun j => slotAny c j := by
  refine (Entails.of_eq (Ring.pointsTo_blocks (ℓ := (c : Thread nD τ).loc cc0_scratch1) slotSet slot_disjoint slot_cover f)).trans
    (bigSep_mono fun j _ => slotAny_intro c j f)
/-- and back. -/
theorem slots_join (c : Dev nD) :
    (bigSep Finset.univ (fun j => slotAny c j) : sProp 𝕄) ⊢ iprop(∃ f, ((c : Thread nD τ).loc cc0_scratch1) ↦{fullShare} f) :=
  Ring.pointsTo_blocks_join_exists (ℓ := (c : Thread nD τ).loc cc0_scratch1) slotSet slot_disjoint slot_cover
    (fun _ => default)
theorem slotFull_any (c j : Dev nD) : (slotFull xb c j : sProp 𝕄) ⊢ slotAny c j := by
  unfold slotFull slotAny owns
  iintro ⟨%f, -, H⟩; iexists f; iexact H

end Cert.Exchange

end

end
-- ==== Proof.Steps.lean ====
/-
# The steps of the exchange

One lemma for each kind of step that the devices take towards each other — a signal, the barrier, a departing
transfer, an arrival, the return of the rows that departed — each at a list of the devices still to be served, whose
head it serves.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xb : Dev nD → (cc0_scratch0 : Ref sig .tc).ty.Contents (Elt F)) (K : GSem nD τ sig → ℕ)

/-! ## The invariants -/

/-- The pairs of two different devices. -/
def offDiag : Finset (Dev nD × Dev nD) := Finset.univ.filter fun x => x.1 ≠ x.2
theorem mem_offDiag {c j : Dev nD} (h : j ≠ c) : (c, j) ∈ offDiag := Finset.mem_filter.mpr ⟨Finset.mem_univ _, fun e => h e.symm⟩

/-- The invariant of every cell, and that every barrier is at its round. -/
def world : sProp 𝕄 :=
  iprop(bigSep Finset.univ (fun d : Dev nD => cellInv ER (sched xb) (K (barCell d)) (barCell d))
    ∗ bigSep Finset.univ (fun d : Dev nD => reached ER (barCell d) 0)
    ∗ bigSep offDiag (fun x => cellInv ER (sched xb) (K (sendCell x.1 x.2)) (sendCell x.1 x.2))
    ∗ bigSep offDiag (fun x => cellInv ER (sched xb) (K (recvCell x.1 x.2)) (recvCell x.1 x.2)))

instance world_persistent : Persistent (world xb K : sProp 𝕄) := by unfold world; infer_instance

omit [FloatOps F] in
/-- One of a family of resources. -/
theorem pick {I : Type} [DecidableEq I] {S : Finset I} (Φ : I → sProp 𝕄) {i : I} (h : i ∈ S) : (bigSep S Φ : sProp 𝕄) ⊢ Φ i :=
  bigSep_elim h

theorem world_bar (d : Dev nD) :
    (world xb K : sProp 𝕄) ⊢ iprop(cellInv ER (sched xb) (K (barCell d)) (barCell d) ∗ reached ER (barCell d) 0) := by
  unfold world
  iintro ⟨H1, H2, -, -⟩
  isplitl [H1]
  · iapply (pick (fun d : Dev nD => cellInv ER (sched xb) (K (barCell d)) (barCell d)) (Finset.mem_univ d)); iexact H1
  · iapply (pick (fun d : Dev nD => reached ER (barCell d) 0) (Finset.mem_univ d)); iexact H2
theorem world_send {c j : Dev nD} (h : j ≠ c) :
    (world xb K : sProp 𝕄) ⊢ cellInv ER (sched xb) (K (sendCell c j)) (sendCell c j) := by
  unfold world
  iintro ⟨-, -, H, -⟩
  iapply (pick (fun x : Dev nD × Dev nD => cellInv ER (sched xb) (K (sendCell x.1 x.2)) (sendCell x.1 x.2)) (mem_offDiag h)); iexact H
theorem world_recv {c j : Dev nD} (h : j ≠ c) :
    (world xb K : sProp 𝕄) ⊢ cellInv ER (sched xb) (K (recvCell c j)) (recvCell c j) := by
  unfold world
  iintro ⟨-, -, -, H⟩
  iapply (pick (fun x : Dev nD × Dev nD => cellInv ER (sched xb) (K (recvCell x.1 x.2)) (recvCell x.1 x.2)) (mem_offDiag h)); iexact H

/-- Device `c` owes `O`. -/
def owing (c : Dev nD) (O : CellTallies nD τ sig Unit) : sProp 𝕄 := iprop(∃ W, owes (c : Thread nD τ) O W)

/-! ## The signals -/

/-- What device `c` holds to signal device `j`. -/
def sigRes (c j : Dev nD) : sProp 𝕄 :=
  iprop(dutyTok ER (barCell j) 0 c ∗ slotAny c j ∗ reached ER (recvCell c j) 0)
/-- The signals to the devices of a list are still to be given. -/
def sigSt (c : Dev nD) (O : CellTallies nD τ sig Unit) (l : List (Dev nD)) : sProp 𝕄 :=
  iprop(bigSepL l (sigRes c) ∗ owing c (owedBar O l))

theorem step_signal (c j : Dev nD) (hj : j ≠ c) (O : CellTallies nD τ sig Unit) (l : List (Dev nD)) {n : Dev nD} (hn : n = j)
    {α : Type} {Q : α → sProp 𝕄} {k : PUnit → Prog (TpuEff nD τ sig (Elt F) Λ₀ .tc) α} :
    iprop(world xb K ∗ sigSt c O (j :: l))
      ⊢ iprop((sigSt c O l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barrier0 (1#32 : BitVec 32).toInt) k) Q) := by
  subst hn
  rw [show (1#32 : BitVec 32).toInt = ((1#32 : BitVec 32).toNat : Int) from rfl]
  unfold sigSt owing
  rw [bigSepL_cons']
  unfold sigRes
  iintro ⟨#Hw, ⟨⟨Ht, Hs, #Hr⟩, Hl⟩, ⟨%W, HO⟩⟩ Hk
  ihave Hb := (world_bar xb K n) $$ Hw
  icases Hb with ⟨#HI, #Hrb⟩
  iapply (Rounds.wp_signal 𝒱₀ ER (sched xb) (c : Thread nD τ) none (dst := (n : Thread nD τ)) (κ := K (barCell n)) (r := 0) (d := c)
      (by rw [duties_bar]; exact Finset.mem_erase.mpr ⟨fun e => hj e.symm, Finset.mem_univ _⟩)
      (show (sched xb).amount (barCell n) 0 c = (1#32 : BitVec 32).toNat from rfl) ()
      (O₀ := owedBar O (n :: l)) (owedBar O l) rfl (W := W)) $$ [HO Ht Hs]
  · isplitr; · iexact HI
    isplitl [HO]; · iexact HO
    isplitl [Ht]; · iexact Ht
    isplitl [Hs]
    · rw [payload_bar]
      isplitl [Hs]; · iexact Hs
      iexact Hr
    iexact Hrb
  iintro HO
  iapply Hk
  isplitl [Hl]; · iexact Hl
  iexists W; iexact HO

/-! ## The barrier -/

/-- What the other devices have handed to device `c`: the slots it is to fill. -/
def lent (c d : Dev nD) : sProp 𝕄 := iprop(slotAny d c ∗ reached ER (recvCell d c) 0)

theorem step_barrier (c : Dev nD) (l : List (Dev nD))
    {α : Type} {Q : α → sProp 𝕄} {k : PUnit → Prog (TpuEff nD τ sig (Elt F) Λ₀ .tc) α} :
    iprop(world xb K ∗ levAts L lv ∗ cred (tallyAt (barCell c) () 7) ∗ atPos ER (barCell c) 0 ∅ 0 ∗ owing c (owedRec c l))
      ⊢ iprop(((bigSepL (sreep c) (lent c) ∗ atPos ER (barCell c) 1 ∅ 0 ∗ owing c (owedRec c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 (7#32 : BitVec 32).toInt) k) Q) := by
  rw [show (7#32 : BitVec 32).toInt = ((7#32 : BitVec 32).toNat : Int) from rfl]
  unfold owing
  iintro ⟨#Hw, #Hlev, Hc, Hat, ⟨%W, HO⟩⟩ Hk
  ihave Hb := (world_bar xb K c) $$ Hw
  icases Hb with ⟨#HI, -⟩
  iapply (Rounds.wp_wait_rest_token 𝒱₀ ER (sched xb) (c : Thread nD τ) none (κ := K (barCell c))
      (wpE_semWait_eq 𝒱₀ (c : Thread nD τ) none Set.univ) (Set.mem_univ _) () (O := owedRec c l) (W := W) (R := 0) (m := 0) (T := ∅)
      ((Nat.zero_add _).trans (expect_bar xb c).symm)) $$ [Hc HO Hat]
  · isplitr; · iexact HI
    isplitl [Hc]; · iexact Hc
    isplitl [HO]; · iexact HO
    isplitr; · iapply (mayWait_bar c l); iexact Hlev
    iexact Hat
  iintro ⟨HO, Hat, -, Hpay⟩
  iapply Hk
  isplitl [Hpay]
  · iapply (Entails.of_eq (rest_bar xb c)); iexact Hpay
  isplitl [Hat]; · iexact Hat
  iexists (insert (SemLoc.reg barrier0, ()) W); iexact HO

/-! ## The transfers -/

/-- What device `c` holds of its own to send to device `j`. -/
def sendRes (c j : Dev nD) : sProp 𝕄 :=
  iprop(rowPts xb c j ∗ dutyTok ER (sendCell c j) 0 c ∗ reached ER (sendCell c j) 0 ∗ dutyTok ER (recvCell j c) 0 c)
/-- The transfers to the devices of `l` are still to be started; those of `done` have been. -/
def sendSt (c : Dev nD) (l done : List (Dev nD)) : sProp 𝕄 :=
  iprop(bigSepL l (sendRes xb c) ∗ bigSepL l (lent c) ∗ bigSepL done (fun j => cred (tallyAt (sendCell c j) () N))
    ∗ owing c (owedRec c l))

/-- What lands in the slot of device `c` on device `j`. -/
theorem landed (c j : Dev nD) (fd : Buf (Elt F) ((slotM c).view.loc (j : Thread nD τ))) :
    ((slotM c).view.loc (j : Thread nD τ) ↦[(slotM c).view.set]{fullShare}
        ((slotM c).view.write (Elt F) fd ((rowM j).view.read (Elt F) (xb c)) Finset.univ) : sProp 𝕄) ⊢ slotFull xb j c := by
  unfold slotFull owns
  iintro H
  iexists ((slotM c).view.write (Elt F) fd ((rowM j).view.read (Elt F) (xb c)) Finset.univ)
  isplitr
  · ipureintro; exact View.read_write_univ _ _
  iexact H

theorem step_send_of (c j : Dev nD) (hj : j ≠ c) (l done : List (Dev nD)) {n : Dev nD} (hn : n = j)
    {src dst : Memref sig .tc .vmem S128x128 .bf16} (hs : src = rowM j) (hd : dst = slotM c)
    {sS sem : DmaSem sig} (h1 : sS = semAt cc0_scratch2 j) (h2 : sem = semAt cc0_scratch3 c)
    {hsc : dst.view.ref.isScScratch = false} {hsrc : src.view.WordExact} {hdst : dst.view.WordExact}
    {hsem : DmaTarget.Typed .vmem (.dma sem) (.remote (Dev.tc n) dst (.dma sS) hsc)}
    {α : Type} {Q : α → sProp 𝕄} {k : PUnit → Prog (TpuEff nD τ sig (Elt F) Λ₀ .tc) α} :
    iprop(world xb K ∗ sendSt xb c (j :: l) done)
      ⊢ iprop((sendSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n) dst (.dma sS) hsc) (.dma sem) hsrc hdst hsem) k) Q) := by
  subst hn hs hd h1 h2
  unfold sendSt owing
  rw [bigSepL_cons', bigSepL_cons', bigSepL_cons']
  unfold sendRes rowPts lent
  conv => lhs; unfold slotAny
  iintro ⟨#Hw, ⟨⟨Hrow, HtS, #HrS, HtR⟩, Hl⟩, ⟨⟨⟨%fd, Hslot⟩, #HrR⟩, Hl'⟩, Hdone, ⟨%W, HO⟩⟩ Hk
  ihave HIs := (world_send xb K hj) $$ Hw
  ihave HIr := (world_recv xb K (c := n) (j := c) (fun e => hj e.symm)) $$ Hw
  iapply (Rounds.wp_send_pointsTo 𝒱₀ ER (sched xb) (c : Thread nD τ) none (c' := (n : Thread nD τ)) (src := rowM n) (dst := slotM c)
      (sS := .dma (semAt cc0_scratch2 n)) (sem := .dma (semAt cc0_scratch3 c)) (q := fullShare) (fs := xb c) (fd := fd)
      (κ₁ := K (sendCell c n)) (κ₂ := K (recvCell n c)) (r₁ := 0) (r₂ := 0) (d₁ := c) (d₂ := c)
      (by rw [duties_send xb c n hj]; exact Finset.mem_singleton_self _)
      (by rw [duties_recv xb n c (fun e => hj e.symm)]; exact Finset.mem_singleton_self _)
      () () N rfl rfl rfl (owedRec c l) rfl (W := W)
      (by rw [payload_send]; exact BI.Entails.refl _)
      (by rw [payload_recv]; exact landed xb c n fd)) $$ [Hrow Hslot HO HtS HtR HIs HIr]
  · isplitl [HIs]; · iexact HIs
    isplitl [HIr]; · iexact HIr
    isplitl [Hrow]; · iexact Hrow
    isplitl [Hslot]; · iexact Hslot
    isplitl [HO]; · iexact HO
    isplitl [HtS]; · iexact HtS
    isplitr; · iexact HrS
    isplitl [HtR]; · iexact HtR
    iexact HrR
  iintro ⟨Hc, HO⟩
  iapply Hk
  isplitl [Hl]; · iexact Hl
  isplitl [Hl']; · iexact Hl'
  isplitl [Hc Hdone]
  · isplitl [Hc] <;> iassumption
  iexists W; iexact HO

/-! ## The arrivals -/

/-- What device `c` holds to wait for the transfer from device `j`, -/
def recvRes (c j : Dev nD) : sProp 𝕄 := iprop(cred (tallyAt (recvCell c j) () N) ∗ atPos ER (recvCell c j) 0 ∅ 0)
/-- and what it holds afterwards. -/
def recvDone (c j : Dev nD) : sProp 𝕄 := iprop(slotFull xb c j ∗ atPos ER (recvCell c j) 1 ∅ 0)
/-- The transfers from the devices of `l` are still to be waited for; those of `done` have arrived. -/
def recvSt (c : Dev nD) (l done : List (Dev nD)) : sProp 𝕄 :=
  iprop(bigSepL l (recvRes c) ∗ bigSepL done (recvDone xb c) ∗ owing c 0)

theorem step_recv_of (c j : Dev nD) (hj : j ≠ c) (l done : List (Dev nD))
    {src dst : Memref sig .tc .vmem S128x128 .bf16} (hd : dst = slotM j) {sem : DmaSem sig} (h1 : sem = semAt cc0_scratch3 j)
    {hsrc : src.view.WordExact} {hdst : dst.view.WordExact}
    {α : Type} {Q : α → sProp 𝕄} {k : PUnit → Prog (TpuEff nD τ sig (Elt F) Λ₀ .tc) α} :
    iprop(world xb K ∗ recvSt xb c (j :: l) done)
      ⊢ iprop((recvSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hd h1
  unfold recvSt owing
  rw [bigSepL_cons', bigSepL_cons']
  unfold recvRes recvDone
  iintro ⟨#Hw, ⟨⟨Hc, Hat⟩, Hl⟩, Hdone, ⟨%W, HO⟩⟩ Hk
  ihave HI := (world_recv xb K hj) $$ Hw
  iapply (Rounds.wp_wait_rest_token 𝒱₀ ER (sched xb) (c : Thread nD τ) none (κ := K (recvCell c j))
      (wpE_waitDma2_eq (src := src) (dst := slotM j) 𝒱₀ (c : Thread nD τ) none Set.univ) (Set.mem_univ _) () (O := 0) (W := W) (R := 0) (m := 0) (T := ∅)
      ((Nat.zero_add _).trans (expect_recv xb c j hj).symm)) $$ [Hc HO Hat HI]
  · isplitl [HI]; · iexact HI
    isplitl [Hc]; · iexact Hc
    isplitl [HO]; · iexact HO
    isplitr; · rw [MayWait_zero]; iempintro
    iexact Hat
  iintro ⟨HO, Hat, -, Hpay⟩
  iapply Hk
  isplitl [Hl]; · iexact Hl
  isplitr [HO]
  · isplitr [Hdone]
    · isplitl [Hpay]
      · iapply (Entails.of_eq (rest_recv xb c j hj)); iexact Hpay
      · iexact Hat
    · iexact Hdone
  iexists (insert (SemLoc.dma (semAt cc0_scratch3 j), ()) W); iexact HO

/-- The contents of the slot that device `j` filled on device `c`, as the body loads them. -/
def gxBlk (c j : Dev nD) : Vec F S1x128x128 .bf16 := fun i =>
  (rowM c).view.read (Elt F) (xb j) ((Shape.reshapeEquiv squeezes_S1x128x128_S128x128.numel_eq).symm i)

theorem step_slot_of (c j : Dev nD) (l done : List (Dev nD)) {off : Fin 3 → ℕ} (ho : off = ![j.val, 0, 0])
    {inb : ∀ a, off a + S1x128x128.size a ≤ S8x128x128.size a}
    {hl : (Memref.whole cc0_scratch1 : Memref sig .tc .vmem S8x128x128 .bf16).view.LoadsAt (Rect.unit (s := S8x128x128) off S1x128x128.size inb).toLoadRect}
    {α : Type} {Q : α → sProp 𝕄} {k : Vec F S1x128x128 .bf16 → Prog (TpuEff nD τ sig (Elt F) Λ₀ .tc) α} :
    recvSt xb c l (j :: done)
      ⊢ iprop((recvSt xb c l (j :: done) -∗ wp frame (wpE (defs₀ (F := F)) 𝒱₀ (c : Thread nD τ) none) Set.univ (k (gxBlk xb c j)) Q)
          -∗ wp frame (wpE (defs₀ (F := F)) 𝒱₀ (c : Thread nD τ) none) Set.univ
              (.op (.load (Memref.whole cc0_scratch1) (Rect.unit (s := S8x128x128) off S1x128x128.size inb).toLoadRect hl) k) Q) := by
  subst ho
  unfold recvSt
  rw [bigSepL_cons']
  unfold recvDone slotFull owns
  iintro ⟨Hl, ⟨⟨⟨%f, %hf, Hs⟩, Hat⟩, Hdone⟩, HO⟩ Hk
  have hg : ((Memref.whole cc0_scratch1 : Memref sig .tc .vmem S8x128x128 .bf16).access
      (Rect.unit (s := S8x128x128) ![j.val, 0, 0] S1x128x128.size inb)).read (Elt F) f = gxBlk xb c j := by
    funext i
    unfold gxBlk
    rw [← hf]
    show _ = ((Memref.whole cc0_scratch1 : Memref sig .tc .vmem S8x128x128 .bf16).access
      (Rect.unit (s := S8x128x128) ![j.val, 0, 0] S1x128x128.size inb)).read (Elt F) f
        (Shape.reshapeEquiv squeezes_S1x128x128_S128x128.numel_eq
          ((Shape.reshapeEquiv squeezes_S1x128x128_S128x128.numel_eq).symm i))
    rw [Equiv.apply_symm_apply]
  iapply (wp_load_rect 𝒱₀ (c : Thread nD τ) none Set.univ (m := (Memref.whole cc0_scratch1 : Memref sig .tc .vmem S8x128x128 .bf16))
    (r := Rect.unit (s := S8x128x128) ![j.val, 0, 0] S1x128x128.size inb) (S := (slotM j).view.set)
    (by rw [slot_set]; exact (View.set_slice_whole _ _).le)) $$ Hs
  iintro Hs
  rw [hg]
  iapply Hk
  isplitl [Hl]; · iexact Hl
  isplitr [HO]
  · isplitr [Hdone]
    · isplitl [Hs]
      · iexists f
        isplitr
        · ipureintro; exact hf
        iexact Hs
      · iexact Hat
    · iexact Hdone
  iexact HO

/-! ## The return of the rows -/

/-- What device `c` holds to wait until its rows for device `j` have been read, -/
def depRes (c j : Dev nD) : sProp 𝕄 := iprop(cred (tallyAt (sendCell c j) () N) ∗ atPos ER (sendCell c j) 0 ∅ 0)
/-- and what it holds afterwards. -/
def depDone (c j : Dev nD) : sProp 𝕄 := iprop(rowPts xb c j ∗ atPos ER (sendCell c j) 1 ∅ 0)
/-- The rows for the devices of `l` are still to be waited for; those for the devices of `done` are back. -/
def depSt (c : Dev nD) (l done : List (Dev nD)) : sProp 𝕄 :=
  iprop(bigSepL l (depRes c) ∗ bigSepL done (depDone xb c) ∗ owing c 0)

theorem step_dep_of (c j : Dev nD) (hj : j ≠ c) (l done : List (Dev nD))
    {src dst : Memref sig .tc .vmem S128x128 .bf16} (hd : dst = rowM j) {sem : DmaSem sig} (h1 : sem = semAt cc0_scratch2 j)
    {hsrc : src.view.WordExact} {hdst : dst.view.WordExact}
    {α : Type} {Q : α → sProp 𝕄} {k : PUnit → Prog (TpuEff nD τ sig (Elt F) Λ₀ .tc) α} :
    iprop(world xb K ∗ depSt xb c (j :: l) done)
      ⊢ iprop((depSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hd h1
  unfold depSt owing
  rw [bigSepL_cons', bigSepL_cons']
  unfold depRes depDone
  iintro ⟨#Hw, ⟨⟨Hc, Hat⟩, Hl⟩, Hdone, ⟨%W, HO⟩⟩ Hk
  ihave HI := (world_send xb K hj) $$ Hw
  iapply (Rounds.wp_wait_rest_token 𝒱₀ ER (sched xb) (c : Thread nD τ) none (κ := K (sendCell c j))
      (wpE_waitDma2_eq (src := src) (dst := rowM j) 𝒱₀ (c : Thread nD τ) none Set.univ) (Set.mem_univ _) () (O := 0) (W := W) (R := 0) (m := 0) (T := ∅)
      ((Nat.zero_add _).trans (expect_send xb c j hj).symm)) $$ [Hc HO Hat HI]
  · isplitl [HI]; · iexact HI
    isplitl [Hc]; · iexact Hc
    isplitl [HO]; · iexact HO
    isplitr; · rw [MayWait_zero]; iempintro
    iexact Hat
  iintro ⟨HO, Hat, -, Hpay⟩
  iapply Hk
  isplitl [Hl]; · iexact Hl
  isplitr [HO]
  · isplitr [Hdone]
    · isplitl [Hpay]
      · iapply (Entails.of_eq (rest_send xb c j hj)); iexact Hpay
      · iexact Hat
    · iexact Hdone
  iexists (insert (SemLoc.dma (semAt cc0_scratch2 j), ()) W); iexact HO

end Cert.Exchange

end

end
-- ==== Proof.Parts.lean ====
/-
# The body, part by part

The kernel's body is a sequence of parts.  Each part is run from what it needs to what it leaves: the list of devices
still to be served gets shorter, the accumulated product gets longer.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xb : Dev nD → (cc0_scratch0 : Ref sig .tc).ty.Contents (Elt F)) (K : GSem nD τ sig → ℕ)

/-- A buffer of device `c`, held whole at contents `f`. -/
abbrev pts (c : Dev nD) (b : Ref sig .tc) (f : b.ty.Contents (Elt F)) : sProp 𝕄 := ((c : Thread nD τ).loc b) ↦{fullShare} f

/-! ## The steps at the addresses that the words of the table give -/

section Words

variable (c j : Dev nD) (hj : j ≠ c) (O : CellTallies nD τ sig Unit) (l done : List (Dev nD))

include hj in
/-- The signal to device `j`. -/
theorem sig_wd {hn : k0_dev1 (wd j) < nD} {α : Type} {Q : α → sProp 𝕄} {k : PUnit → Prog (TpuEff nD τ sig (Elt F) Λ₀ .tc) α} :
    iprop(world xb K ∗ sigSt c O (j :: l))
      ⊢ iprop((sigSt c O l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc (⟨k0_dev1 (wd j), hn⟩ : Dev nD)) (SemArray.scalar (sig.barrier 0 rfl) : Sems sig S_).sem (1#32 : BitVec 32).toInt) k) Q) :=
  step_signal xb K c j hj O l (dev_eq j (sigDev_wd j) hn)

include hj in
/-- The transfer to device `j`. -/
theorem send_wd {hn : k0_dev14 (wd j) < nD} {i1 : ∀ a, k0_off23 (wd j) a + S128x128.size a ≤ S1024x128.size a}
    {i2 : ∀ a, k0_off10 c a + S1x128x128.size a ≤ S8x128x128.size a} {i3 : ∀ a, k0_off22 (wd j) a + S1.size a ≤ S8.size a}
    {i4 : ∀ a, k0_off9 c a + S1.size a ≤ S8.size a}
    {src dst : Memref sig .tc .vmem S128x128 .bf16}
    (hs : src = (Memref.whole cc0_scratch0).slice (Rect.unit (s := S1024x128) (k0_off23 (wd j)) S128x128.size i1) (fun _ => rfl))
    (hd : dst = ((Memref.whole cc0_scratch1).slice (Rect.unit (s := S8x128x128) (k0_off10 c) S1x128x128.size i2) (fun _ => rfl)).squeeze S128x128 squeezes_S1x128x128_S128x128)
    {hsc : dst.view.ref.isScScratch = false} {hsrc : src.view.WordExact} {hdst : dst.view.WordExact}
    {hsem : DmaTarget.Typed .vmem (.dma (((cc0_scratch3.slice (Rect.unit (s := S8) (k0_off9 c) S1.size i4)).squeeze S_ squeezes_S1_S_).sem))
      (.remote (Dev.tc (⟨k0_dev14 (wd j), hn⟩ : Dev nD)) dst (.dma (((cc0_scratch2.slice (Rect.unit (s := S8) (k0_off22 (wd j)) S1.size i3)).squeeze S_ squeezes_S1_S_).sem)) hsc)}
    {α : Type} {Q : α → sProp 𝕄} {k : PUnit → Prog (TpuEff nD τ sig (Elt F) Λ₀ .tc) α} :
    iprop(world xb K ∗ sendSt xb c (j :: l) done)
      ⊢ iprop((sendSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (⟨k0_dev14 (wd j), hn⟩ : Dev nD)) dst
                  (.dma (((cc0_scratch2.slice (Rect.unit (s := S8) (k0_off22 (wd j)) S1.size i3)).squeeze S_ squeezes_S1_S_).sem)) hsc)
                (.dma (((cc0_scratch3.slice (Rect.unit (s := S8) (k0_off9 c) S1.size i4)).squeeze S_ squeezes_S1_S_).sem)) hsrc hdst hsem) k) Q) :=
  step_send_of xb K c j hj l done (dev_eq j (sendDev_wd j) hn) (hs.trans (rowM_eq j (row_wd j) i1)) (hd.trans (slotM_eq c (k0_off10_eq c) i2))
    (semAt_eq _ j (sem_wd j) i3) (semAt_eq _ c (k0_off9_eq c) i4)

include hj in
/-- The arrival from device `j`. -/
theorem recv_wd {i1 : ∀ a, k0_off22 (wd j) a + S1.size a ≤ S8.size a} {i2 : ∀ a, k0_off26 (wd j) a + S1x128x128.size a ≤ S8x128x128.size a}
    {src dst : Memref sig .tc .vmem S128x128 .bf16}
    (hd : dst = ((Memref.whole cc0_scratch1).slice (Rect.unit (s := S8x128x128) (k0_off26 (wd j)) S1x128x128.size i2) (fun _ => rfl)).squeeze S128x128 squeezes_S1x128x128_S128x128)
    {hsrc : src.view.WordExact} {hdst : dst.view.WordExact} {α : Type} {Q : α → sProp 𝕄} {k : PUnit → Prog (TpuEff nD τ sig (Elt F) Λ₀ .tc) α} :
    iprop(world xb K ∗ recvSt xb c (j :: l) done)
      ⊢ iprop((recvSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (((cc0_scratch3.slice (Rect.unit (s := S8) (k0_off22 (wd j)) S1.size i1)).squeeze S_ squeezes_S1_S_).sem) src dst hsrc hdst) k) Q) :=
  step_recv_of xb K c j hj l done (hd.trans (slotM_eq j (slot_wd j) i2)) (semAt_eq _ j (sem_wd j) i1)

include hj in
/-- The return of the rows sent to device `j`. -/
theorem dep_wd {i1 : ∀ a, k0_off22 (wd j) a + S1.size a ≤ S8.size a} {i2 : ∀ a, k0_off23 (wd j) a + S128x128.size a ≤ S1024x128.size a}
    {src dst : Memref sig .tc .vmem S128x128 .bf16}
    (hd : dst = (Memref.whole cc0_scratch0).slice (Rect.unit (s := S1024x128) (k0_off23 (wd j)) S128x128.size i2) (fun _ => rfl))
    {hsrc : src.view.WordExact} {hdst : dst.view.WordExact} {α : Type} {Q : α → sProp 𝕄} {k : PUnit → Prog (TpuEff nD τ sig (Elt F) Λ₀ .tc) α} :
    iprop(world xb K ∗ depSt xb c (j :: l) done)
      ⊢ iprop((depSt xb c l (j :: done) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (((cc0_scratch2.slice (Rect.unit (s := S8) (k0_off22 (wd j)) S1.size i1)).squeeze S_ squeezes_S1_S_).sem) src dst hsrc hdst) k) Q) :=
  step_dep_of xb K c j hj l done (hd.trans (rowM_eq j (row_wd j) i2)) (semAt_eq _ j (sem_wd j) i1)

/-- The load of the slot that device `j` filled. -/
theorem slot_wd_load {inb : ∀ a, k0_off27 (wd j) a + S1x128x128.size a ≤ S8x128x128.size a}
    {hl : (Memref.whole cc0_scratch1 : Memref sig .tc .vmem S8x128x128 .bf16).view.LoadsAt (Rect.unit (s := S8x128x128) (k0_off27 (wd j)) S1x128x128.size inb).toLoadRect}
    {α : Type} {Q : α → sProp 𝕄} {k : Vec F S1x128x128 .bf16 → Prog (TpuEff nD τ sig (Elt F) Λ₀ .tc) α} :
    recvSt xb c l (j :: done)
      ⊢ iprop((recvSt xb c l (j :: done) -∗ wp frame (wpE (defs₀ (F := F)) 𝒱₀ (c : Thread nD τ) none) Set.univ (k (gxBlk xb c j)) Q)
          -∗ wp frame (wpE (defs₀ (F := F)) 𝒱₀ (c : Thread nD τ) none) Set.univ
              (.op (.load (Memref.whole cc0_scratch1) (Rect.unit (s := S8x128x128) (k0_off27 (wd j)) S1x128x128.size inb).toLoadRect hl) k) Q) :=
  step_slot_of xb c j l done (slotLoad_wd j)

/-- The rows of the second operand that meet the block of device `j`. -/
def wBlk (W : (cc0_stg1_0 : Ref sig .tc).ty.Contents (Elt F)) (j : Dev nD) : Vec F S128x1024 .f32 :=
  ((Memref.whole cc0_stg1_0 : Memref sig .tc .vmem S1024x1024 .f32).access
    (Rect.unit (s := S1024x1024) ![128 * j.val, 0] S128x1024.size (wrow_inb j))).read (Elt F) W
/-- The rows of device `c`'s own block that it keeps. -/
def xBlk (X : (cc0_stg0_0 : Ref sig .tc).ty.Contents (Elt F)) (j : Dev nD) : Vec F S128x128 .f32 :=
  ((Memref.whole cc0_stg0_0 : Memref sig .tc .vmem S1024x128 .f32).access
    (Rect.unit (s := S1024x128) ![128 * j.val, 0] S128x128.size (row_inb j))).read (Elt F) X

/-- The load of those rows, at an offset that is known. -/
theorem wrow_load (W : (cc0_stg1_0 : Ref sig .tc).ty.Contents (Elt F)) {off : Fin 2 → ℕ} (ho : off = ![128 * j.val, 0])
    {inb : ∀ a, off a + S128x1024.size a ≤ S1024x1024.size a}
    {hl : (Memref.whole cc0_stg1_0 : Memref sig .tc .vmem S1024x1024 .f32).view.LoadsAt (Rect.unit (s := S1024x1024) off S128x1024.size inb).toLoadRect}
    {α : Type} {Q : α → sProp 𝕄} {k : Vec F S128x1024 .f32 → Prog (TpuEff nD τ sig (Elt F) Λ₀ .tc) α} :
    pts c cc0_stg1_0 W
      ⊢ iprop((pts c cc0_stg1_0 W -∗ wp frame (wpE (defs₀ (F := F)) 𝒱₀ (c : Thread nD τ) none) Set.univ (k (wBlk W j)) Q)
          -∗ wp frame (wpE (defs₀ (F := F)) 𝒱₀ (c : Thread nD τ) none) Set.univ
              (.op (.load (Memref.whole cc0_stg1_0) (Rect.unit (s := S1024x1024) off S128x1024.size inb).toLoadRect hl) k) Q) := by
  subst ho
  exact wp_load_rect 𝒱₀ (c : Thread nD τ) none Set.univ (m := (Memref.whole cc0_stg1_0 : Memref sig .tc .vmem S1024x1024 .f32))
    (r := Rect.unit (s := S1024x1024) ![128 * j.val, 0] S128x1024.size inb) (Finset.subset_univ _)

/-- The load of the own rows. -/
theorem xrow_load (X : (cc0_stg0_0 : Ref sig .tc).ty.Contents (Elt F)) {off : Fin 2 → ℕ} (ho : off = ![128 * j.val, 0])
    {inb : ∀ a, off a + S128x128.size a ≤ S1024x128.size a}
    {hl : (Memref.whole cc0_stg0_0 : Memref sig .tc .vmem S1024x128 .f32).view.LoadsAt (Rect.unit (s := S1024x128) off S128x128.size inb).toLoadRect}
    {α : Type} {Q : α → sProp 𝕄} {k : Vec F S128x128 .f32 → Prog (TpuEff nD τ sig (Elt F) Λ₀ .tc) α} :
    pts c cc0_stg0_0 X
      ⊢ iprop((pts c cc0_stg0_0 X -∗ wp frame (wpE (defs₀ (F := F)) 𝒱₀ (c : Thread nD τ) none) Set.univ (k (xBlk X j)) Q)
          -∗ wp frame (wpE (defs₀ (F := F)) 𝒱₀ (c : Thread nD τ) none) Set.univ
              (.op (.load (Memref.whole cc0_stg0_0) (Rect.unit (s := S1024x128) off S128x128.size inb).toLoadRect hl) k) Q) := by
  subst ho
  exact wp_load_rect 𝒱₀ (c : Thread nD τ) none Set.univ (m := (Memref.whole cc0_stg0_0 : Memref sig .tc .vmem S1024x128 .f32))
    (r := Rect.unit (s := S1024x128) ![128 * j.val, 0] S128x128.size inb) (Finset.subset_univ _)

end Words

/-! ## The parts -/

section Parts

variable (c : Dev nD) {h0 : (Memref.whole cc0_stg0_0 : Memref sig .tc .vmem S1024x128 .f32).IsWhole}
  {h1 : (Memref.whole cc0_stg1_0 : Memref sig .tc .vmem S1024x1024 .f32).IsWhole}
  {h2 : (Memref.whole cc0_stg2_0 : Memref sig .tc .smem S8x7 .i32).IsWhole}
  {h3 : (Memref.whole cc0_stg3_0 : Memref sig .tc .vmem S128x1024 .f32).IsWhole}
  {h4 : (Memref.whole cc0_scratch0 : Memref sig .tc .vmem S1024x128 .bf16).IsWhole}
  {h5 : (Memref.whole cc0_scratch1 : Memref sig .tc .vmem S8x128x128 .bf16).IsWhole}
  {g0 : k0_chk1 (wd (peer c 0))} {g1 : k0_chk2 (wd (peer c 1))} {g2 : k0_chk3 (wd (peer c 2))} {g3 : k0_chk4 (wd (peer c 3))}
  {g4 : k0_chk5 (wd (peer c 4))} {g5 : k0_chk6 (wd (peer c 5))} {g6 : k0_chk7 (wd (peer c 6))}
  (X : (cc0_stg0_0 : Ref sig .tc).ty.Contents (Elt F)) (W : (cc0_stg1_0 : Ref sig .tc).ty.Contents (Elt F))

/-- A word of the table, as the body loads it, names the peer. -/
theorem word_read (s : Fin 7) {off : Fin 2 → ℕ} (ho : off = ![c.val, s.val])
    {inb : ∀ a, off a + S1x1.size a ≤ S8x7.size a} {hp : 0 < S1x1.numel} :
    ((Memref.whole cc0_stg2_0 : Memref sig .tc .smem S8x7 .i32).access (Rect.unit (s := S8x7) off S1x1.size inb)).read (Elt F) table
      (Shape.Idx.first (s := S1x1) hp) = wd (peer c s) := by
  subst ho
  rw [← table_cell c s]
  show table _ = table _
  refine congrArg _ (funext fun a => Fin.ext ?_)
  match a with
  | ⟨0, _⟩ => exact Nat.add_zero _
  | ⟨1, _⟩ => exact Nat.add_zero _

/-- The load of a word of the table. -/
theorem word_load (s : Fin 7) {off : Fin 2 → ℕ} {inb : ∀ a, off a + S1x1.size a ≤ S8x7.size a}
    {hl : (Memref.whole cc0_stg2_0 : Memref sig .tc .smem S8x7 .i32).view.LoadsAt (Rect.unit (s := S8x7) off S1x1.size inb).toLoadRect}
    {α : Type} {Q : α → sProp 𝕄} {k : (S1x1.Idx → Elt F .i32) → Prog (TpuEff nD τ sig (Elt F) Λ₀ .tc) α} :
    pts c cc0_stg2_0 table
      ⊢ iprop((pts c cc0_stg2_0 table -∗ wp frame (wpE (defs₀ (F := F)) 𝒱₀ (c : Thread nD τ) none) Set.univ
            (k (((Memref.whole cc0_stg2_0 : Memref sig .tc .smem S8x7 .i32).access (Rect.unit (s := S8x7) off S1x1.size inb)).read (Elt F) table)) Q)
          -∗ wp frame (wpE (defs₀ (F := F)) 𝒱₀ (c : Thread nD τ) none) Set.univ
              (.op (.load (Memref.whole cc0_stg2_0) (Rect.unit (s := S8x7) off S1x1.size inb).toLoadRect hl) k) Q) :=
  wp_load_rect 𝒱₀ (c : Thread nD τ) none Set.univ (m := (Memref.whole cc0_stg2_0 : Memref sig .tc .smem S8x7 .i32))
    (r := Rect.unit (s := S8x7) off S1x1.size inb) (Finset.subset_univ _)

theorem zeros2 : (![0, 0] : Fin 2 → ℕ) = fun _ => 0 := funext fun a => by fin_cases a <;> rfl

theorem chk2_wd (j : Dev nD) : k0_chk2 (wd j) := (chk_same _ (chk_wd j)).1
theorem chk3_wd (j : Dev nD) : k0_chk3 (wd j) := (chk_same _ (chk_wd j)).2.1
theorem chk4_wd (j : Dev nD) : k0_chk4 (wd j) := (chk_same _ (chk_wd j)).2.2.1
theorem chk5_wd (j : Dev nD) : k0_chk5 (wd j) := (chk_same _ (chk_wd j)).2.2.2.1
theorem chk6_wd (j : Dev nD) : k0_chk6 (wd j) := (chk_same _ (chk_wd j)).2.2.2.2.1
theorem chk7_wd (j : Dev nD) : k0_chk7 (wd j) := (chk_same _ (chk_wd j)).2.2.2.2.2

/-- The load of the device's block of `x`. -/
theorem x_load {f : cc0_stg0_0.ty.Contents (Elt F)} {inb : ∀ a, (![0, 0] : Fin 2 → ℕ) a + S1024x128.size a ≤ S1024x128.size a}
    {hl : (Memref.whole cc0_stg0_0 : Memref sig .tc .vmem S1024x128 .f32).view.LoadsAt (Rect.unit (s := S1024x128) ![0, 0] S1024x128.size inb).toLoadRect}
    {α : Type} {Q : α → sProp 𝕄} {k : (S1024x128.Idx → Elt F .f32) → Prog (TpuEff nD τ sig (Elt F) Λ₀ .tc) α} :
    pts c cc0_stg0_0 f
      ⊢ iprop((pts c cc0_stg0_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg0_0) (Rect.unit (s := S1024x128) ![0, 0] S1024x128.size inb).toLoadRect hl) k) Q) := by
  have h := wp_load (Γ := .empty) (k := k) (Q := Q) (hl := hl) (f := f) (q := fullShare) 𝒱₀ (c : Thread nD τ) none Set.univ (defs := defs₀ (F := F))
    (m := (Memref.whole cc0_stg0_0 : Memref sig .tc .vmem S1024x128 .f32)) (Finset.subset_univ _)
  have e : (Memref.whole cc0_stg0_0 : Memref sig .tc .vmem S1024x128 .f32).view.readAt (Elt F) (Rect.unit (s := S1024x128) ![0, 0] S1024x128.size inb).toLoadRect f = f :=
    Memref.readAt_unit_zero (Elt F) cc0_stg0_0 zeros2 inb f
  rw [e] at h
  exact h

/-- The load of the rounded block's buffer. -/
theorem xb_load {f : cc0_scratch0.ty.Contents (Elt F)} {inb : ∀ a, (![0, 0] : Fin 2 → ℕ) a + S1024x128.size a ≤ S1024x128.size a}
    {hl : (Memref.whole cc0_scratch0 : Memref sig .tc .vmem S1024x128 .bf16).view.LoadsAt (Rect.unit (s := S1024x128) ![0, 0] S1024x128.size inb).toLoadRect}
    {α : Type} {Q : α → sProp 𝕄} {k : (S1024x128.Idx → Elt F .bf16) → Prog (TpuEff nD τ sig (Elt F) Λ₀ .tc) α} :
    pts c cc0_scratch0 f
      ⊢ iprop((pts c cc0_scratch0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_scratch0) (Rect.unit (s := S1024x128) ![0, 0] S1024x128.size inb).toLoadRect hl) k) Q) := by
  have h := wp_load (Γ := .empty) (k := k) (Q := Q) (hl := hl) (f := f) (q := fullShare) 𝒱₀ (c : Thread nD τ) none Set.univ (defs := defs₀ (F := F))
    (m := (Memref.whole cc0_scratch0 : Memref sig .tc .vmem S1024x128 .bf16)) (Finset.subset_univ _)
  have e : (Memref.whole cc0_scratch0 : Memref sig .tc .vmem S1024x128 .bf16).view.readAt (Elt F) (Rect.unit (s := S1024x128) ![0, 0] S1024x128.size inb).toLoadRect f = f :=
    Memref.readAt_unit_zero (Elt F) cc0_scratch0 zeros2 inb f
  rw [e] at h
  exact h

/-- The load of the result's buffer. -/
theorem out_load {f : cc0_stg3_0.ty.Contents (Elt F)} {inb : ∀ a, (![0, 0] : Fin 2 → ℕ) a + S128x1024.size a ≤ S128x1024.size a}
    {hl : (Memref.whole cc0_stg3_0 : Memref sig .tc .vmem S128x1024 .f32).view.LoadsAt (Rect.unit (s := S128x1024) ![0, 0] S128x1024.size inb).toLoadRect}
    {α : Type} {Q : α → sProp 𝕄} {k : (S128x1024.Idx → Elt F .f32) → Prog (TpuEff nD τ sig (Elt F) Λ₀ .tc) α} :
    pts c cc0_stg3_0 f
      ⊢ iprop((pts c cc0_stg3_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg3_0) (Rect.unit (s := S128x1024) ![0, 0] S128x1024.size inb).toLoadRect hl) k) Q) := by
  have h := wp_load (Γ := .empty) (k := k) (Q := Q) (hl := hl) (f := f) (q := fullShare) 𝒱₀ (c : Thread nD τ) none Set.univ (defs := defs₀ (F := F))
    (m := (Memref.whole cc0_stg3_0 : Memref sig .tc .vmem S128x1024 .f32)) (Finset.subset_univ _)
  have e : (Memref.whole cc0_stg3_0 : Memref sig .tc .vmem S128x1024 .f32).view.readAt (Elt F) (Rect.unit (s := S128x1024) ![0, 0] S128x1024.size inb).toLoadRect f = f :=
    Memref.readAt_unit_zero (Elt F) cc0_stg3_0 zeros2 inb f
  rw [e] at h
  exact h

/-- The store of the rounded block. -/
theorem xb_store {f w : cc0_scratch0.ty.Contents (Elt F)} {inb : ∀ a, (![0, 0] : Fin 2 → ℕ) a + S1024x128.size a ≤ S1024x128.size a}
    {hx : ((Memref.whole cc0_scratch0 : Memref sig .tc .vmem S1024x128 .bf16).access (Rect.unit (s := S1024x128) ![0, 0] S1024x128.size inb)).Stores Finset.univ} {hm}
    {α : Type} {Q : α → sProp 𝕄} {k : PUnit → Prog (TpuEff nD τ sig (Elt F) Λ₀ .tc) α} :
    pts c cc0_scratch0 f
      ⊢ iprop((pts c cc0_scratch0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch0) (Rect.unit (s := S1024x128) ![0, 0] S1024x128.size inb) w Finset.univ hx hm) k) Q) := by
  have h := wp_store (Γ := .empty) (k := k) (Q := Q) (hx := hx) (hm := hm) (w := w) (f := f) 𝒱₀ (c : Thread nD τ) none Set.univ (defs := defs₀ (F := F))
    (m := (Memref.whole cc0_scratch0 : Memref sig .tc .vmem S1024x128 .bf16)) (Finset.subset_univ _)
  have e : ((Memref.whole cc0_scratch0 : Memref sig .tc .vmem S1024x128 .bf16).access (Rect.unit (s := S1024x128) ![0, 0] S1024x128.size inb)).write (Elt F) f w Finset.univ = w :=
    Memref.write_access_unit_zero_univ (Elt F) cc0_scratch0 zeros2 inb f w
  rw [e] at h
  exact h

/-- The store of the result. -/
theorem out_store {f w : cc0_stg3_0.ty.Contents (Elt F)} {inb : ∀ a, (![0, 0] : Fin 2 → ℕ) a + S128x1024.size a ≤ S128x1024.size a}
    {hx : ((Memref.whole cc0_stg3_0 : Memref sig .tc .vmem S128x1024 .f32).access (Rect.unit (s := S128x1024) ![0, 0] S128x1024.size inb)).Stores Finset.univ} {hm}
    {α : Type} {Q : α → sProp 𝕄} {k : PUnit → Prog (TpuEff nD τ sig (Elt F) Λ₀ .tc) α} :
    pts c cc0_stg3_0 f
      ⊢ iprop((pts c cc0_stg3_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg3_0) (Rect.unit (s := S128x1024) ![0, 0] S128x1024.size inb) w Finset.univ hx hm) k) Q) := by
  have h := wp_store (Γ := .empty) (k := k) (Q := Q) (hx := hx) (hm := hm) (w := w) (f := f) 𝒱₀ (c : Thread nD τ) none Set.univ (defs := defs₀ (F := F))
    (m := (Memref.whole cc0_stg3_0 : Memref sig .tc .vmem S128x1024 .f32)) (Finset.subset_univ _)
  have e : ((Memref.whole cc0_stg3_0 : Memref sig .tc .vmem S128x1024 .f32).access (Rect.unit (s := S128x1024) ![0, 0] S128x1024.size inb)).write (Elt F) f w Finset.univ = w :=
    Memref.write_access_unit_zero_univ (Elt F) cc0_stg3_0 zeros2 inb f w
  rw [e] at h
  exact h

set_option maxHeartbeats 4000000 in
/-- The first part: the words of the table, the rounding of the block, and the first two signals. -/
theorem part1_run (O : CellTallies nD τ sig Unit)
    {Q : (Σ' (d0 : Dev nD) (v2 : BitVec 32) (v4 : Elt F .i32) (k0_hw1 : k0_chk1 v4) (v6 : Elt F .i32) (k0_hw2 : k0_chk2 v6) (v8 : Elt F .i32) (k0_hw3 : k0_chk3 v8) (v10 : Elt F .i32) (k0_hw4 : k0_chk4 v10) (v12 : Elt F .i32) (k0_hw5 : k0_chk5 v12) (v14 : Elt F .i32) (k0_hw6 : k0_chk6 v14) (v16 : Elt F .i32) (k0_hw7 : k0_chk7 v16) (v23 : Sems sig S_), BitVec 32) → sProp 𝕄} :
    iprop(world xb K ∗ pts c cc0_stg2_0 table ∗ pts c cc0_stg0_0 X ∗ (∃ f, pts c cc0_scratch0 f) ∗ sigSt c O (peers c)
        ∗ ((pts c cc0_stg2_0 table ∗ pts c cc0_stg0_0 X ∗ pts c cc0_scratch0 (k0_pay1 X)
              ∗ sigSt c O [peer c 2, peer c 3, peer c 4, peer c 5, peer c 6])
          -∗ Q ⟨c, Scalar.remsi (Scalar.divsi (Dev.word c) 1#32) 8#32, wd (peer c 0), chk_wd _, wd (peer c 1), chk2_wd _, wd (peer c 2), chk3_wd _,
            wd (peer c 3), chk4_wd _, wd (peer c 4), chk5_wd _, wd (peer c 5), chk6_wd _, wd (peer c 6), chk7_wd _, SemArray.scalar (sig.barrier 0 rfl), 1#32⟩))
      ⊢ wp frame (wpE (defs₀ (F := F)) 𝒱₀ (c : Thread nD τ) none) Set.univ
          (k0_part1_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3) Q := by
  unfold k0_part1_skel
  simp only [semSignalWord, semWaitWord, smemLoad, smemLoadElt, Prog.lift, Prog.bind_op, Prog.bind_ret, Prog.pure_eq_ret, Prog.bind_assoc, wp_deviceId]
  iintro ⟨#Hw, Ht, Hx, ⟨%f, Hb⟩, Hs, Hk⟩
  iapply (word_load c 0) $$ Ht; iintro Ht
  rw [word_read c 0 (k0_off1_eq c)]
  rw [wp_assume_of _ _ _ _ (d := k0_chk1.dec _) (chk_wd (peer c 0))]
  iapply (word_load c 1) $$ Ht; iintro Ht
  rw [word_read c 1 (k0_off2_eq c)]
  rw [wp_assume_of _ _ _ _ (d := k0_chk2.dec _) (chk2_wd (peer c 1))]
  iapply (word_load c 2) $$ Ht; iintro Ht
  rw [word_read c 2 (k0_off3_eq c)]
  rw [wp_assume_of _ _ _ _ (d := k0_chk3.dec _) (chk3_wd (peer c 2))]
  iapply (word_load c 3) $$ Ht; iintro Ht
  rw [word_read c 3 (k0_off4_eq c)]
  rw [wp_assume_of _ _ _ _ (d := k0_chk4.dec _) (chk4_wd (peer c 3))]
  iapply (word_load c 4) $$ Ht; iintro Ht
  rw [word_read c 4 (k0_off5_eq c)]
  rw [wp_assume_of _ _ _ _ (d := k0_chk5.dec _) (chk5_wd (peer c 4))]
  iapply (word_load c 5) $$ Ht; iintro Ht
  rw [word_read c 5 (k0_off6_eq c)]
  rw [wp_assume_of _ _ _ _ (d := k0_chk6.dec _) (chk6_wd (peer c 5))]
  iapply (word_load c 6) $$ Ht; iintro Ht
  rw [word_read c 6 (k0_off7_eq c)]
  rw [wp_assume_of _ _ _ _ (d := k0_chk7.dec _) (chk7_wd (peer c 6))]
  iapply (x_load c) $$ Hx; iintro Hx
  iapply (xb_load c) $$ Hb; iintro Hb
  iapply (xb_store c) $$ Hb; iintro Hb
  iapply (sig_wd xb K c (peer c 0) (peer_ne c 0) O _) $$ [Hs]
  · isplitr; · iexact Hw
    iexact Hs
  iintro Hs
  iapply (sig_wd xb K c (peer c 1) (peer_ne c 1) O _) $$ [Hs]
  · isplitr; · iexact Hw
    iexact Hs
  iintro Hs
  rw [wp_ret]
  imodintro
  iapply Hk
  isplitl [Ht]; · iexact Ht
  isplitl [Hx]; · iexact Hx
  isplitl [Hb] <;> iassumption

set_option maxHeartbeats 4000000 in
/-- The second part: the other signals, the barrier, and the first transfer. -/
theorem part2_run {Q : PUnit → sProp 𝕄} :
    iprop(world xb K ∗ levAts L lv ∗ sigSt c (owedRec c (sreep c)) [peer c 2, peer c 3, peer c 4, peer c 5, peer c 6]
        ∗ cred (tallyAt (barCell c) () 7) ∗ atPos ER (barCell c) 0 ∅ 0 ∗ bigSepL (sreep c) (sendRes xb c)
        ∗ ((atPos ER (barCell c) 1 ∅ 0 ∗ sendSt xb c [peer c 5, peer c 4, peer c 3, peer c 2, peer c 1, peer c 0] [peer c 6]) -∗ Q ⟨⟩))
      ⊢ wp frame (wpE (defs₀ (F := F)) 𝒱₀ (c : Thread nD τ) none) Set.univ
          (k0_part2_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            c (wd (peer c 2)) g2 (wd (peer c 3)) g3 (wd (peer c 4)) g4 (wd (peer c 5)) g5 (wd (peer c 6)) g6 (SemArray.scalar (sig.barrier 0 rfl)) 1#32) Q := by
  unfold k0_part2_skel
  simp only [semSignalWord, semWaitWord, smemLoad, smemLoadElt, Prog.lift, Prog.bind_op, Prog.bind_ret, Prog.pure_eq_ret, Prog.bind_assoc, wp_deviceId]
  iintro ⟨#Hw, #Hlev, Hs, Hc, Hat, Hr, Hk⟩
  iapply (sig_wd xb K c (peer c 2) (peer_ne c 2) _ _) $$ [Hs]
  · isplitr; · iexact Hw
    iexact Hs
  iintro Hs
  iapply (sig_wd xb K c (peer c 3) (peer_ne c 3) _ _) $$ [Hs]
  · isplitr; · iexact Hw
    iexact Hs
  iintro Hs
  iapply (sig_wd xb K c (peer c 4) (peer_ne c 4) _ _) $$ [Hs]
  · isplitr; · iexact Hw
    iexact Hs
  iintro Hs
  iapply (sig_wd xb K c (peer c 5) (peer_ne c 5) _ _) $$ [Hs]
  · isplitr; · iexact Hw
    iexact Hs
  iintro Hs
  iapply (sig_wd xb K c (peer c 6) (peer_ne c 6) _ _) $$ [Hs]
  · isplitr; · iexact Hw
    iexact Hs
  iintro Hs
  unfold sigSt
  icases Hs with ⟨-, HO⟩
  iapply (step_barrier xb K c (sreep c)) $$ [Hc Hat HO]
  · isplitr; · iexact Hw
    isplitr; · iexact Hlev
    isplitl [Hc]; · iexact Hc
    isplitl [Hat]; · iexact Hat
    iexact HO
  iintro ⟨Hl, Hat, HO⟩
  iapply (send_wd xb K c (peer c 6) (peer_ne c 6) [peer c 5, peer c 4, peer c 3, peer c 2, peer c 1, peer c 0] [] rfl rfl) $$ [Hr Hl HO]
  · isplitr; · iexact Hw
    unfold sendSt
    isplitl [Hr]; · iexact Hr
    isplitl [Hl]; · iexact Hl
    isplitr; · iempintro
    iexact HO
  iintro Hs
  rw [wp_ret]
  imodintro
  iapply Hk
  isplitl [Hat] <;> iassumption

set_option maxHeartbeats 4000000 in
/-- The third part: four transfers. -/
theorem part3_run {v6 : BitVec 32} {Q : BitVec 32 → sProp 𝕄} :
    iprop(world xb K ∗ sendSt xb c [peer c 5, peer c 4, peer c 3, peer c 2, peer c 1, peer c 0] [peer c 6]
        ∗ (sendSt xb c [peer c 1, peer c 0] [peer c 2, peer c 3, peer c 4, peer c 5, peer c 6] -∗ Q (Scalar.muli v6 1#32)))
      ⊢ wp frame (wpE (defs₀ (F := F)) 𝒱₀ (c : Thread nD τ) none) Set.univ
          (k0_part3_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            c v6 (wd (peer c 2)) g2 (wd (peer c 3)) g3 (wd (peer c 4)) g4 (wd (peer c 5)) g5) Q := by
  unfold k0_part3_skel
  simp only [semSignalWord, semWaitWord, smemLoad, smemLoadElt, Prog.lift, Prog.bind_op, Prog.bind_ret, Prog.pure_eq_ret, Prog.bind_assoc, wp_deviceId]
  iintro ⟨#Hw, Hs, Hk⟩
  iapply (send_wd xb K c (peer c 5) (peer_ne c 5) _ _ rfl rfl) $$ [Hs]
  · isplitr; · iexact Hw
    iexact Hs
  iintro Hs
  iapply (send_wd xb K c (peer c 4) (peer_ne c 4) _ _ rfl rfl) $$ [Hs]
  · isplitr; · iexact Hw
    iexact Hs
  iintro Hs
  iapply (send_wd xb K c (peer c 3) (peer_ne c 3) _ _ rfl rfl) $$ [Hs]
  · isplitr; · iexact Hw
    iexact Hs
  iintro Hs
  iapply (send_wd xb K c (peer c 2) (peer_ne c 2) _ _ rfl rfl) $$ [Hs]
  · isplitr; · iexact Hw
    iexact Hs
  iintro Hs
  rw [wp_ret]
  imodintro
  iapply Hk
  iexact Hs

set_option maxHeartbeats 4000000 in
/-- The fourth part: the last two transfers, the product of the own rows, and the first arrival. -/
theorem part4_run {v2 v89 : BitVec 32} {Q : FVec F S128x1024 .f32 → sProp 𝕄} :
    iprop(world xb K ∗ pts c cc0_stg0_0 X ∗ pts c cc0_stg1_0 W ∗ sendSt xb c [peer c 1, peer c 0] [peer c 2, peer c 3, peer c 4, peer c 5, peer c 6]
        ∗ bigSepL (peers c) (recvRes c)
        ∗ ((pts c cc0_stg0_0 X ∗ pts c cc0_stg1_0 W ∗ bigSepL (peers c) (fun j => cred (tallyAt (sendCell c j) () N))
              ∗ recvSt xb c [peer c 1, peer c 2, peer c 3, peer c 4, peer c 5, peer c 6] [peer c 0])
          -∗ Q (k0_pay2 (xBlk X c) (wBlk W c))))
      ⊢ wp frame (wpE (defs₀ (F := F)) 𝒱₀ (c : Thread nD τ) none) Set.univ
          (k0_part4_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            c v2 (wd (peer c 0)) g0 (wd (peer c 1)) g1 v89) Q := by
  unfold k0_part4_skel
  simp only [semSignalWord, semWaitWord, smemLoad, smemLoadElt, Prog.lift, Prog.bind_op, Prog.bind_ret, Prog.pure_eq_ret, Prog.bind_assoc, wp_deviceId]
  iintro ⟨#Hw, HX, HW, Hs, Hr, Hk⟩
  iapply (send_wd xb K c (peer c 1) (peer_ne c 1) _ _ rfl rfl) $$ [Hs]
  · isplitr; · iexact Hw
    iexact Hs
  iintro Hs
  iapply (send_wd xb K c (peer c 0) (peer_ne c 0) _ _ rfl rfl) $$ [Hs]
  · isplitr; · iexact Hw
    iexact Hs
  iintro Hs
  unfold sendSt
  icases Hs with ⟨-, -, Hcr, HO⟩
  iapply (xrow_load c c X (k0_off24_eq c)) $$ HX; iintro HX
  iapply (wrow_load c c W (k0_off25_eq c)) $$ HW; iintro HW
  iapply (recv_wd xb K c (peer c 0) (peer_ne c 0) [peer c 1, peer c 2, peer c 3, peer c 4, peer c 5, peer c 6] [] rfl) $$ [Hr HO]
  · isplitr; · iexact Hw
    unfold recvSt
    isplitl [Hr]; · iexact Hr
    isplitr; · iempintro
    iexact HO
  iintro Hr
  rw [wp_ret]
  imodintro
  iapply Hk
  isplitl [HX]; · iexact HX
  isplitl [HW]; · iexact HW
  isplitl [Hcr] <;> iassumption

/-- The fifth part: two blocks of the sum, and the next arrivals. -/
theorem part5_run (acc : FVec F S128x1024 .f32) {Q : FVec F S128x1024 .f32 → sProp 𝕄} :
    iprop(world xb K ∗ pts c cc0_stg1_0 W ∗ recvSt xb c [peer c 1, peer c 2, peer c 3, peer c 4, peer c 5, peer c 6] [peer c 0]
        ∗ ((pts c cc0_stg1_0 W ∗ recvSt xb c [peer c 3, peer c 4, peer c 5, peer c 6] [peer c 2, peer c 1, peer c 0])
          -∗ Q (k0_pay3 acc (gxBlk xb c (peer c 0)) (wBlk W (peer c 0)) (gxBlk xb c (peer c 1)) (wBlk W (peer c 1)))))
      ⊢ wp frame (wpE (defs₀ (F := F)) 𝒱₀ (c : Thread nD τ) none) Set.univ
          (k0_part5_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            (wd (peer c 0)) g0 (wd (peer c 1)) g1 (wd (peer c 2)) g2 acc) Q := by
  unfold k0_part5_skel
  simp only [Prog.lift, Prog.bind_op, Prog.bind_ret, Prog.pure_eq_ret, Prog.bind_assoc]
  iintro ⟨#Hw, HW, Hr, Hk⟩
  iapply (slot_wd_load xb c (peer c 0) _ _) $$ Hr; iintro Hr
  iapply (wrow_load c (peer c 0) W (wrow_wd (peer c 0))) $$ HW; iintro HW
  iapply (recv_wd xb K c (peer c 1) (peer_ne c 1) _ _ rfl) $$ [Hr]
  · isplitr; · iexact Hw
    iexact Hr
  iintro Hr
  iapply (slot_wd_load xb c (peer c 1) _ _) $$ Hr; iintro Hr
  iapply (wrow_load c (peer c 1) W (wrow_wd (peer c 1))) $$ HW; iintro HW
  iapply (recv_wd xb K c (peer c 2) (peer_ne c 2) _ _ rfl) $$ [Hr]
  · isplitr; · iexact Hw
    iexact Hr
  iintro Hr
  rw [wp_ret]
  imodintro
  iapply Hk
  isplitl [HW] <;> iassumption

set_option maxHeartbeats 4000000 in
/-- The sixth part: two blocks of the sum, and the next arrivals. -/
theorem part6_run (acc : FVec F S128x1024 .f32) {Q : FVec F S128x1024 .f32 → sProp 𝕄} :
    iprop(world xb K ∗ pts c cc0_stg1_0 W ∗ recvSt xb c [peer c 3, peer c 4, peer c 5, peer c 6] [peer c 2, peer c 1, peer c 0]
        ∗ ((pts c cc0_stg1_0 W ∗ recvSt xb c [peer c 5, peer c 6] [peer c 4, peer c 3, peer c 2, peer c 1, peer c 0])
          -∗ Q (k0_pay4 acc (gxBlk xb c (peer c 2)) (wBlk W (peer c 2)) (gxBlk xb c (peer c 3)) (wBlk W (peer c 3)))))
      ⊢ wp frame (wpE (defs₀ (F := F)) 𝒱₀ (c : Thread nD τ) none) Set.univ
          (k0_part6_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            (wd (peer c 2)) g2 (wd (peer c 3)) g3 (wd (peer c 4)) g4 acc) Q := by
  unfold k0_part6_skel
  simp only [semSignalWord, semWaitWord, smemLoad, smemLoadElt, Prog.lift, Prog.bind_op, Prog.bind_ret, Prog.pure_eq_ret, Prog.bind_assoc, wp_deviceId]
  iintro ⟨#Hw, HW, Hr, Hk⟩
  iapply (slot_wd_load xb c (peer c 2) _ _) $$ Hr; iintro Hr
  iapply (wrow_load c (peer c 2) W (wrow_wd (peer c 2))) $$ HW; iintro HW
  iapply (recv_wd xb K c (peer c 3) (peer_ne c 3) _ _ rfl) $$ [Hr]
  · isplitr; · iexact Hw
    iexact Hr
  iintro Hr
  iapply (slot_wd_load xb c (peer c 3) _ _) $$ Hr; iintro Hr
  iapply (wrow_load c (peer c 3) W (wrow_wd (peer c 3))) $$ HW; iintro HW
  iapply (recv_wd xb K c (peer c 4) (peer_ne c 4) _ _ rfl) $$ [Hr]
  · isplitr; · iexact Hw
    iexact Hr
  iintro Hr
  rw [wp_ret]
  imodintro
  iapply Hk
  isplitl [HW] <;> iassumption

set_option maxHeartbeats 4000000 in
/-- The seventh part: two blocks of the sum, and the next arrivals. -/
theorem part7_run (acc : FVec F S128x1024 .f32) {Q : FVec F S128x1024 .f32 → sProp 𝕄} :
    iprop(world xb K ∗ pts c cc0_stg1_0 W ∗ recvSt xb c [peer c 5, peer c 6] [peer c 4, peer c 3, peer c 2, peer c 1, peer c 0]
        ∗ ((pts c cc0_stg1_0 W ∗ recvSt xb c [] [peer c 6, peer c 5, peer c 4, peer c 3, peer c 2, peer c 1, peer c 0])
          -∗ Q (k0_pay5 acc (gxBlk xb c (peer c 4)) (wBlk W (peer c 4)) (gxBlk xb c (peer c 5)) (wBlk W (peer c 5)))))
      ⊢ wp frame (wpE (defs₀ (F := F)) 𝒱₀ (c : Thread nD τ) none) Set.univ
          (k0_part7_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            (wd (peer c 4)) g4 (wd (peer c 5)) g5 (wd (peer c 6)) g6 acc) Q := by
  unfold k0_part7_skel
  simp only [semSignalWord, semWaitWord, smemLoad, smemLoadElt, Prog.lift, Prog.bind_op, Prog.bind_ret, Prog.pure_eq_ret, Prog.bind_assoc, wp_deviceId]
  iintro ⟨#Hw, HW, Hr, Hk⟩
  iapply (slot_wd_load xb c (peer c 4) _ _) $$ Hr; iintro Hr
  iapply (wrow_load c (peer c 4) W (wrow_wd (peer c 4))) $$ HW; iintro HW
  iapply (recv_wd xb K c (peer c 5) (peer_ne c 5) _ _ rfl) $$ [Hr]
  · isplitr; · iexact Hw
    iexact Hr
  iintro Hr
  iapply (slot_wd_load xb c (peer c 5) _ _) $$ Hr; iintro Hr
  iapply (wrow_load c (peer c 5) W (wrow_wd (peer c 5))) $$ HW; iintro HW
  iapply (recv_wd xb K c (peer c 6) (peer_ne c 6) _ _ rfl) $$ [Hr]
  · isplitr; · iexact Hw
    iexact Hr
  iintro Hr
  rw [wp_ret]
  imodintro
  iapply Hk
  isplitl [HW] <;> iassumption

set_option maxHeartbeats 4000000 in
/-- The eighth part: the last block of the sum, the result, and the first rows to return. -/
theorem part8_run (acc : FVec F S128x1024 .f32) {v10 : BitVec 32} {Q : PUnit → sProp 𝕄} :
    iprop(world xb K ∗ pts c cc0_stg1_0 W ∗ (∃ f, pts c cc0_stg3_0 f) ∗ recvSt xb c [] [peer c 6, peer c 5, peer c 4, peer c 3, peer c 2, peer c 1, peer c 0] ∗ bigSepL (peers c) (depRes c)
        ∗ ((pts c cc0_stg1_0 W ∗ pts c cc0_stg3_0 (k0_pay6 acc (gxBlk xb c (peer c 6)) (wBlk W (peer c 6)))
              ∗ bigSepL [peer c 6, peer c 5, peer c 4, peer c 3, peer c 2, peer c 1, peer c 0] (recvDone xb c) ∗ depSt xb c [peer c 3, peer c 4, peer c 5, peer c 6] [peer c 2, peer c 1, peer c 0]) -∗ Q ⟨⟩))
      ⊢ wp frame (wpE (defs₀ (F := F)) 𝒱₀ (c : Thread nD τ) none) Set.univ
          (k0_part8_skel (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3
            c (wd (peer c 0)) g0 (wd (peer c 1)) g1 (wd (peer c 2)) g2 v10 (wd (peer c 6)) g6 acc) Q := by
  unfold k0_part8_skel
  simp only [semSignalWord, semWaitWord, smemLoad, smemLoadElt, Prog.lift, Prog.bind_op, Prog.bind_ret, Prog.pure_eq_ret, Prog.bind_assoc, wp_deviceId]
  iintro ⟨#Hw, HW, ⟨%f, Hout⟩, Hr, Hd, Hk⟩
  iapply (slot_wd_load xb c (peer c 6) _ _) $$ Hr; iintro Hr
  iapply (wrow_load c (peer c 6) W (wrow_wd (peer c 6))) $$ HW; iintro HW
  iapply (out_load c) $$ Hout; iintro Hout
  iapply (out_store c) $$ Hout; iintro Hout
  unfold recvSt
  icases Hr with ⟨-, Hr, HO⟩
  iapply (dep_wd xb K c (peer c 0) (peer_ne c 0) [peer c 1, peer c 2, peer c 3, peer c 4, peer c 5, peer c 6] [] rfl) $$ [Hd HO]
  · isplitr; · iexact Hw
    unfold depSt
    isplitl [Hd]; · iexact Hd
    isplitr; · iempintro
    iexact HO
  iintro Hd
  iapply (dep_wd xb K c (peer c 1) (peer_ne c 1) _ _ rfl) $$ [Hd]
  · isplitr; · iexact Hw
    iexact Hd
  iintro Hd
  iapply (dep_wd xb K c (peer c 2) (peer_ne c 2) _ _ rfl) $$ [Hd]
  · isplitr; · iexact Hw
    iexact Hd
  iintro Hd
  rw [wp_ret]
  imodintro
  iapply Hk
  isplitl [HW]; · iexact HW
  isplitl [Hout]; · iexact Hout
  isplitl [Hr] <;> iassumption

end Parts

end Cert.Exchange

end

end
-- ==== Proof.Body.lean ====
/-
# The run of the kernel's body

The eight parts one after another, from what the launch has dealt to a device to what the device gives back: its
semaphores at zero, its buffers whole, and the result in its window.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xb : Dev nD → (cc0_scratch0 : Ref sig .tc).ty.Contents (Elt F)) (K : GSem nD τ sig → ℕ) (c : Dev nD)

/-! ## What a device brings and what it leaves -/

/-- What device `c` brings for device `j`: the right to signal it, to send to it, and to wait for its transfer and for
the departure of its own. -/
def talkWith (j : Dev nD) : sProp 𝕄 :=
  iprop((dutyTok ER (barCell j) 0 c ∗ reached ER (recvCell c j) 0)
    ∗ (dutyTok ER (sendCell c j) 0 c ∗ reached ER (sendCell c j) 0 ∗ dutyTok ER (recvCell j c) 0 c)
    ∗ recvRes c j ∗ atPos ER (sendCell c j) 0 ∅ 0)

/-- What device `c` brings to the exchange. -/
def talkIn : sProp 𝕄 :=
  iprop(world xb K ∗ levAts L lv ∗ bigSep (Finset.univ.erase c) (talkWith c)
    ∗ (atPos ER (barCell c) 0 ∅ 0 ∗ cred (tallyAt (barCell c) () 7)) ∗ semVal (sendCell c c) 0 ∗ semVal (recvCell c c) 0)

/-- What device `c` leaves after the exchange: its semaphores at zero. -/
def talkOut : sProp 𝕄 :=
  iprop(semVal (barCell c) 0 ∗ bigSep Finset.univ (fun j => semVal (sendCell c j) 0) ∗ bigSep Finset.univ (fun j => semVal (recvCell c j) 0))

theorem over_peers (Φ : Dev nD → sProp 𝕄) : bigSep (Finset.univ.erase c) Φ = bigSepL (peers c) Φ :=
  bigSep_eq_bigSepL_of_eq (peers c) (peers_all c).symm (peers_nodup c) Φ

theorem over_sreep (Φ : Dev nD → sProp 𝕄) : bigSep (Finset.univ.erase c) Φ = bigSepL (sreep c) Φ :=
  bigSep_eq_bigSepL_of_eq (sreep c) (sreep_all c).symm (sreep_nodup c) Φ

theorem with_own (Φ : Dev nD → sProp 𝕄) : bigSep Finset.univ Φ = iprop(Φ c ∗ bigSep (Finset.univ.erase c) Φ) :=
  bigSep_erase (Finset.mem_univ c)

/-! ## The result -/

section Out

variable (X : (cc0_stg0_0 : Ref sig .tc).ty.Contents (Elt F)) (W : (cc0_stg1_0 : Ref sig .tc).ty.Contents (Elt F))

/-- The sum, on device `c`, of the products of its own block and of the blocks that arrived, with no entry below zero. -/
def outOf : FVec F S128x1024 .f32 :=
  k0_pay6 (k0_pay5 (k0_pay4 (k0_pay3 (k0_pay2 (xBlk X c) (wBlk W c))
      (gxBlk xb c (peer c 0)) (wBlk W (peer c 0)) (gxBlk xb c (peer c 1)) (wBlk W (peer c 1)))
      (gxBlk xb c (peer c 2)) (wBlk W (peer c 2)) (gxBlk xb c (peer c 3)) (wBlk W (peer c 3)))
      (gxBlk xb c (peer c 4)) (wBlk W (peer c 4)) (gxBlk xb c (peer c 5)) (wBlk W (peer c 5)))
    (gxBlk xb c (peer c 6)) (wBlk W (peer c 6))

end Out

/-! ## Closing the cells -/

theorem atPos_send_close {j : Dev nD} : iprop(cellInv ER (sched xb) (K (sendCell c j)) (sendCell c j) ∗ atPos ER (sendCell c j) 1 ∅ 0)
    ⊢ |={Set.univ}=> (semVal (sendCell c j) 0 : sProp 𝕄) :=
  cell_close ER (sched xb) (Set.mem_univ _) id (duties_later xb (sendCell c j))

theorem atPos_recv_close {j : Dev nD} : iprop(cellInv ER (sched xb) (K (recvCell c j)) (recvCell c j) ∗ atPos ER (recvCell c j) 1 ∅ 0)
    ⊢ |={Set.univ}=> (semVal (recvCell c j) 0 : sProp 𝕄) :=
  cell_close ER (sched xb) (Set.mem_univ _) id (duties_later xb (recvCell c j))

/-- The send cells of the other devices, each after its round, close. -/
theorem sends_close : iprop(world xb K ∗ bigSep (Finset.univ.erase c) (fun j => atPos ER (sendCell c j) 1 ∅ 0))
    ⊢ |={Set.univ}=> (bigSep (Finset.univ.erase c) fun j => semVal (sendCell c j) 0 : sProp 𝕄) := by
  refine (bigSep_with_persistent fun j hj => ?_).trans (bigSep_fupd _ _)
  exact (sep_mono_left (world_send xb K (Finset.ne_of_mem_erase hj))).trans (atPos_send_close xb K c)
/-- The receive cells likewise. -/
theorem recvs_close : iprop(world xb K ∗ bigSep (Finset.univ.erase c) (fun j => atPos ER (recvCell c j) 1 ∅ 0))
    ⊢ |={Set.univ}=> (bigSep (Finset.univ.erase c) fun j => semVal (recvCell c j) 0 : sProp 𝕄) := by
  refine (bigSep_with_persistent fun j hj => ?_).trans (bigSep_fupd _ _)
  exact (sep_mono_left (world_recv xb K (Finset.ne_of_mem_erase hj))).trans (atPos_recv_close xb K c)

theorem slots_back : bigSep (Finset.univ.erase c) (slotFull xb c) ⊢ (bigSep (Finset.univ.erase c) (fun j => slotAny c j) : sProp 𝕄) :=
  bigSep_mono fun j _ => slotFull_any xb c j

/-- What the device brings, sorted by what it is for. -/
theorem talk_split : (bigSep (Finset.univ.erase c) (talkWith c) : sProp 𝕄)
    = iprop(bigSep (Finset.univ.erase c) (fun j => iprop(dutyTok ER (barCell j) 0 c ∗ reached ER (recvCell c j) 0))
      ∗ bigSep (Finset.univ.erase c) (fun j => iprop(dutyTok ER (sendCell c j) 0 c ∗ reached ER (sendCell c j) 0 ∗ dutyTok ER (recvCell j c) 0 c))
      ∗ bigSep (Finset.univ.erase c) (recvRes c) ∗ bigSep (Finset.univ.erase c) (fun j => atPos ER (sendCell c j) 0 ∅ 0)) := by
  rw [← bigSep_sep', ← bigSep_sep', ← bigSep_sep']
  rfl

/-- What the device brings to signal, beside its own slots. -/
theorem sig_merge :
    iprop(bigSep (Finset.univ.erase c) (fun j => iprop(dutyTok ER (barCell j) 0 c ∗ reached ER (recvCell c j) 0))
        ∗ bigSep (Finset.univ.erase c) (fun j => slotAny c j)) ⊢ (bigSepL (peers c) (sigRes c) : sProp 𝕄) := by
  rw [← over_peers c (sigRes c), ← bigSep_sep']
  refine bigSep_mono fun j _ => show iprop((dutyTok ER (barCell j) 0 c ∗ reached ER (recvCell c j) 0) ∗ slotAny c j) ⊢ sigRes c j from ?_
  unfold sigRes
  iintro ⟨⟨Ht, Hr⟩, Hs⟩
  isplitl [Ht]; · iexact Ht
  isplitl [Hs] <;> iassumption

/-- What the device brings to send, beside its own rows. -/
theorem send_merge :
    iprop(bigSep (Finset.univ.erase c) (rowPts xb c)
        ∗ bigSep (Finset.univ.erase c) (fun j => iprop(dutyTok ER (sendCell c j) 0 c ∗ reached ER (sendCell c j) 0 ∗ dutyTok ER (recvCell j c) 0 c)))
      ⊢ (bigSepL (sreep c) (sendRes xb c) : sProp 𝕄) := by
  rw [← over_sreep c (sendRes xb c), ← bigSep_sep']
  exact bigSep_mono fun j _ => show _ ⊢ sendRes xb c j from Entails.of_eq rfl

/-- What the transfers leave to wait for, beside the places of their cells. -/
theorem dep_merge :
    iprop(bigSepL (peers c) (fun j => cred (tallyAt (sendCell c j) () N)) ∗ bigSep (Finset.univ.erase c) (fun j => atPos ER (sendCell c j) 0 ∅ 0))
      ⊢ (bigSepL (peers c) (depRes c) : sProp 𝕄) := by
  rw [← over_peers c (depRes c), ← over_peers c, ← bigSep_sep']
  exact bigSep_mono fun j _ => show _ ⊢ depRes c j from Entails.of_eq rfl

/-- The barrier's cell closes. -/
theorem bar_close : iprop(world xb K ∗ atPos ER (barCell c) 1 ∅ 0) ⊢ |={Set.univ}=> (semVal (barCell c) 0 : sProp 𝕄) := by
  iintro ⟨#Hw, Hat⟩
  ihave Hb := (world_bar xb K c) $$ Hw
  icases Hb with ⟨#HI, -⟩
  iapply (cell_close ER (sched xb) (Set.mem_univ (K (barCell c))) id (duties_later xb (barCell c)))
  isplitr; · iexact HI
  iexact Hat

/-- The end of the body: the cells close, and the buffers are whole again. -/
theorem body_end :
    iprop(world xb K ∗ atPos ER (barCell c) 1 ∅ 0 ∗ bigSepL (sreep c) (recvDone xb c) ∗ bigSepL (sreep c) (depDone xb c)
        ∗ slotAny c c ∗ rowPts xb c c ∗ semVal (sendCell c c) 0 ∗ semVal (recvCell c c) 0)
      ⊢ |={Set.univ}=> iprop(talkOut c ∗ (∃ f, pts c cc0_scratch0 f) ∗ (∃ f, pts c cc0_scratch1 f)) := by
  rw [← over_sreep c (recvDone xb c), ← over_sreep c (depDone xb c)]
  unfold recvDone depDone
  rw [bigSep_sep', bigSep_sep']
  iintro ⟨#Hw, Hb, ⟨Hsl, Hra⟩, ⟨Hrow, Hsa⟩, Hsc, Hrc, Hs0, Hr0⟩
  imod (bar_close xb K c) $$ [Hb] with Hb
  · isplitr; · iexact Hw
    iexact Hb
  imod (sends_close xb K c) $$ [Hsa] with Hsa
  · isplitr; · iexact Hw
    iexact Hsa
  imod (recvs_close xb K c) $$ [Hra] with Hra
  · isplitr; · iexact Hw
    iexact Hra
  imodintro
  isplitl [Hb Hsa Hra Hs0 Hr0]
  · unfold talkOut
    rw [with_own c (fun j => semVal (sendCell c j) 0), with_own c (fun j => semVal (recvCell c j) 0)]
    isplitl [Hb]; · iexact Hb
    isplitl [Hs0 Hsa]
    · isplitl [Hs0] <;> iassumption
    isplitl [Hr0] <;> iassumption
  isplitl [Hrow Hrc]
  · iexists (xb c)
    iapply (Entails.of_eq (rows_eq xb c).symm)
    iapply (Entails.of_eq (with_own c (rowPts xb c)).symm)
    isplitl [Hrc] <;> iassumption
  iapply (slots_join c)
  iapply (Entails.of_eq (with_own c (fun j => slotAny c j)).symm)
  isplitl [Hsc]; · iexact Hsc
  iapply (slots_back xb c); iexact Hsl

/-! ## The body -/

section Run

variable {h0 : (Memref.whole cc0_stg0_0 : Memref sig .tc .vmem S1024x128 .f32).IsWhole} {h1 : (Memref.whole cc0_stg1_0 : Memref sig .tc .vmem S1024x1024 .f32).IsWhole}
  {h2 : (Memref.whole cc0_stg2_0 : Memref sig .tc .smem S8x7 .i32).IsWhole} {h3 : (Memref.whole cc0_stg3_0 : Memref sig .tc .vmem S128x1024 .f32).IsWhole}
  {h4 : (Memref.whole cc0_scratch0 : Memref sig .tc .vmem S1024x128 .bf16).IsWhole} {h5 : (Memref.whole cc0_scratch1 : Memref sig .tc .vmem S8x128x128 .bf16).IsWhole}
  (X : (cc0_stg0_0 : Ref sig .tc).ty.Contents (Elt F)) (W : (cc0_stg1_0 : Ref sig .tc).ty.Contents (Elt F))

set_option maxHeartbeats 4000000 in
/-- The run of the body on device `c`. -/
theorem body_run (hxb : xb c = k0_pay1 X) {Q : PUnit → sProp 𝕄} :
    iprop(talkIn xb K c ∗ pts c cc0_stg0_0 X ∗ pts c cc0_stg1_0 W ∗ pts c cc0_stg2_0 table ∗ (∃ f, pts c cc0_stg3_0 f)
        ∗ (∃ f, pts c cc0_scratch0 f) ∗ (∃ f, pts c cc0_scratch1 f) ∗ owing c (O₀ c)
        ∗ ((talkOut c ∗ pts c cc0_stg0_0 X ∗ pts c cc0_stg1_0 W ∗ pts c cc0_stg2_0 table ∗ pts c cc0_stg3_0 (outOf xb c X W)
              ∗ (∃ f, pts c cc0_scratch0 f) ∗ (∃ f, pts c cc0_scratch1 f) ∗ owing c 0) -∗ Q ⟨⟩))
      ⊢ wp frame (wpE (defs₀ (F := F)) 𝒱₀ (c : Thread nD τ) none) Set.univ
          (cc0_body (Memref.whole cc0_stg0_0) h0 (Memref.whole cc0_stg1_0) h1 (Memref.whole cc0_stg2_0) h2 (Memref.whole cc0_stg3_0) h3
            (Memref.whole cc0_scratch0) h4 (Memref.whole cc0_scratch1) h5 cc0_scratch2 cc0_scratch3) Q := by
  rw [cc0_body_eq_skeleton]
  unfold cc0_body_skel talkIn
  rw [k0_part1_eq_skeleton, k0_part2_eq_skeleton, k0_part3_eq_skeleton, k0_part4_eq_skeleton, k0_part5_eq_skeleton,
    k0_part6_eq_skeleton, k0_part7_eq_skeleton, k0_part8_eq_skeleton]
  simp only [wp_bind]
  rw [talk_split c]
  iintro ⟨⟨#Hw, #Hlev, ⟨Hsig, Hsend, Hrecv, Hdep⟩, ⟨Hbar, Hcred⟩, Hs0, Hr0⟩, HX, HW, Ht, Ho, Hb0, ⟨%f1, Hb1⟩, HO, Hk⟩
  ihave Hsl := (slots_split c f1) $$ Hb1
  ihave Hsl := (Entails.of_eq (with_own c (fun j => slotAny c j))) $$ Hsl
  icases Hsl with ⟨Hsc, Hsl⟩
  iapply (part1_run xb K c X (owedRec c (sreep c)))
  isplitr; · iexact Hw
  isplitl [Ht]; · iexact Ht
  isplitl [HX]; · iexact HX
  isplitl [Hb0]; · iexact Hb0
  isplitl [Hsig Hsl HO]
  · unfold sigSt
    isplitl [Hsig Hsl]
    · iapply (sig_merge c)
      isplitl [Hsig] <;> iassumption
    iexact HO
  iintro ⟨Ht, HX, Hb0, Hsig⟩
  rw [← hxb]
  ihave Hrows := (Entails.of_eq (rows_eq xb c)) $$ Hb0
  ihave Hrows := (Entails.of_eq (with_own c (rowPts xb c))) $$ Hrows
  icases Hrows with ⟨Hrc, Hrows⟩
  iapply (part2_run xb K c)
  isplitr; · iexact Hw
  isplitr; · iexact Hlev
  isplitl [Hsig]; · iexact Hsig
  isplitl [Hcred]; · iexact Hcred
  isplitl [Hbar]; · iexact Hbar
  isplitl [Hsend Hrows]
  · iapply (send_merge xb c)
    isplitl [Hrows] <;> iassumption
  iintro ⟨Hbar, Hs⟩
  iapply (part3_run xb K c)
  isplitr; · iexact Hw
  isplitl [Hs]; · iexact Hs
  iintro Hs
  iapply (part4_run xb K c X W)
  isplitr; · iexact Hw
  isplitl [HX]; · iexact HX
  isplitl [HW]; · iexact HW
  isplitl [Hs]; · iexact Hs
  isplitl [Hrecv]; · iapply (Entails.of_eq (over_peers c (recvRes c))); iexact Hrecv
  iintro ⟨HX, HW, Hcr, Hr⟩
  iapply (part5_run xb K c W)
  isplitr; · iexact Hw
  isplitl [HW]; · iexact HW
  isplitl [Hr]; · iexact Hr
  iintro ⟨HW, Hr⟩
  iapply (part6_run xb K c W)
  isplitr; · iexact Hw
  isplitl [HW]; · iexact HW
  isplitl [Hr]; · iexact Hr
  iintro ⟨HW, Hr⟩
  iapply (part7_run xb K c W)
  isplitr; · iexact Hw
  isplitl [HW]; · iexact HW
  isplitl [Hr]; · iexact Hr
  iintro ⟨HW, Hr⟩
  iapply (part8_run xb K c W)
  isplitr; · iexact Hw
  isplitl [HW]; · iexact HW
  isplitl [Ho]; · iexact Ho
  isplitl [Hr]; · iexact Hr
  isplitl [Hdep Hcr]
  · iapply (dep_merge c)
    isplitl [Hcr] <;> iassumption
  iintro ⟨HW, Ho, Hr, Hd⟩
  simp only [Prog.lift, Prog.bind_op, Prog.bind_ret, Prog.pure_eq_ret, Prog.bind_assoc]
  iapply (dep_wd xb K c (peer c 3) (peer_ne c 3) _ _ rfl) $$ [Hd]
  · isplitr; · iexact Hw
    iexact Hd
  iintro Hd
  rw [wp_ret]
  imodintro
  iapply (dep_wd xb K c (peer c 4) (peer_ne c 4) _ _ rfl) $$ [Hd]
  · isplitr; · iexact Hw
    iexact Hd
  iintro Hd
  rw [wp_ret]
  imodintro
  iapply (dep_wd xb K c (peer c 5) (peer_ne c 5) _ _ rfl) $$ [Hd]
  · isplitr; · iexact Hw
    iexact Hd
  iintro Hd
  rw [wp_ret]
  imodintro
  iapply (dep_wd xb K c (peer c 6) (peer_ne c 6) _ _ rfl) $$ [Hd]
  · isplitr; · iexact Hw
    iexact Hd
  iintro Hd
  rw [wp_ret]
  unfold depSt
  icases Hd with ⟨-, Hd, HO⟩
  imod (body_end xb K c) $$ [Hbar Hr Hd Hsc Hrc Hs0 Hr0] with ⟨Hout, Hb0, Hb1⟩
  · isplitr; · iexact Hw
    isplitl [Hbar]; · iexact Hbar
    isplitl [Hr]; · iexact Hr
    isplitl [Hd]; · iexact Hd
    isplitl [Hsc]; · iexact Hsc
    isplitl [Hrc]; · iexact Hrc
    isplitl [Hs0] <;> iassumption
  imodintro
  rw [wp_ret]
  imodintro
  iapply Hk
  isplitl [Hout]; · iexact Hout
  isplitl [HX]; · iexact HX
  isplitl [HW]; · iexact HW
  isplitl [Ht]; · iexact Ht
  isplitl [Ho]; · iexact Ho
  isplitl [Hb0]; · iexact Hb0
  isplitl [Hb1] <;> iassumption

end Run

end Cert.Exchange

end

end
-- ==== Proof.Region.lean ====
/-
# The kernel call inside the program

What the pipeline around the kernel stages, what the call is entered with and left with, and how the semaphores of the
transfers come into use when it is entered.
-/
module

public import proofs.«01_k».proof.Proof.Body
public import proofs.«01_k».proof.Proof.Gen.KernelIdeal.Frame
public import Idealize.ShloMosaic.Lib.Pipeline.RegionTalk
public import Idealize.ShloMosaic.Lib.Pipeline.FrameSuffix
public import Idealize.ShloMosaic.Lib.Pipeline.Value

@[expose] public section

set_option maxRecDepth 4000

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- The memory of device `c` at launch, -/
def V₀ (c : Dev nD) : Valuation τ sig (Elt F) := fun b => m (c, b)
/-- and when the kernel is called: the table of peers is written. -/
def V₁ (c : Dev nD) : Valuation τ sig (Elt F) := StableHlo.after hostOps0 (V₀ m c)

/-- The block of `x` on device `c`, -/
def xIn (c : Dev nD) : (cc0_stg0_0 : Ref sig .tc).ty.Contents (Elt F) := m ((c : Thread nD τ).loc main_arg0)
/-- its copy of `w`, -/
def wIn (c : Dev nD) : (cc0_stg1_0 : Ref sig .tc).ty.Contents (Elt F) := m ((c : Thread nD τ).loc main_arg1)
/-- its block of `x` as rounded for the transfers, -/
def xbIn (d : Dev nD) : (cc0_scratch0 : Ref sig .tc).ty.Contents (Elt F) := k0_pay1 (xIn m d)
/-- and the block of the result that it computes. -/
def outIn (c : Dev nD) : (cc0_stg3_0 : Ref sig .tc).ty.Contents (Elt F) := outOf (xbIn m) c (xIn m c) (wIn m c)

theorem V₁_arg0 (c : Dev nD) : V₁ m c (Proc.devRef .tc main_arg0) = xIn m c := V_main_arg0 m c
theorem V₁_arg1 (c : Dev nD) : V₁ m c (Proc.devRef .tc main_arg1) = wIn m c := V_main_arg1 m c
theorem V₁_table (c : Dev nD) : V₁ m c (Proc.devRef .tc main_c) = (table : (cc0_stg2_0 : Ref sig .tc).ty.Contents (Elt F)) := by
  show StableHlo.after hostOps0 (V₀ m c) (Proc.devRef .tc main_c) = _
  rw [StableHlo.after_cons, StableHlo.after_nil, StableHlo.nullary_result]
  rfl

/-! ## The proof data -/

/-- Before the kernel: everything that its talk takes. -/
def before (c : Dev nD) : sProp 𝕄 :=
  iprop((∃ K, talkIn (xbIn m) K c) ∗ ((∃ f, pts c cc0_scratch0 f) ∗ (∃ f, pts c cc0_scratch1 f)) ∗ ∃ r, prngReg c r)
/-- After it: its semaphores at zero. -/
def after (c : Dev nD) : sProp 𝕄 :=
  iprop(talkOut c ∗ ((∃ f, pts c cc0_scratch0 f) ∗ (∃ f, pts c cc0_scratch1 f)) ∗ ∃ r, prngReg c r)

/-- The call: the three operands stay as they are, the result is the computed block. -/
def dat (c : Dev nD) : Dat τ (Elt F) Unit ℕ UU ℕ cfg0 c where
  A w := V₁ m c (Proc.devRef .tc (Pipeline.arrRef spec0 w))
  after := fun
    | 0, _ => xIn m c
    | 1, _ => wIn m c
    | 2, _ => table
    | 3, _ => outIn m c
    | ⟨_ + 4, h⟩, _ => absurd h (Nat.not_lt.2 (Nat.le_add_left _ _))
  Φ t := if t.val = 0 then before m c else after c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h : (dat (F := F) m c).owed t = O) :
    ((dat m c).owesAt () t : sProp 𝕄) ⊢ owing c O := by
  unfold owing Dat.owesAt Pipeline.owesWithin; rw [h]
  iintro ⟨%W, -, HO⟩; iexists W; iexact HO
theorem owes_out (c : Dev nD) (t : Fin (cfg0.N + 1)) (O : CellTallies nD τ sig Unit) (h : (dat (F := F) m c).owed t = O) :
    (owing c O : sProp 𝕄) ⊢ (dat m c).owesAt () t := by
  unfold owing Dat.owesAt Pipeline.owesWithin Dat.bound; rw [h]
  iintro ⟨%W, HO⟩; iexists W; isplitr; · ipureintro; exact fun _ _ => Or.inl trivial
  iexact HO

/-! ## The windows: each a whole array -/

theorem read0 (t : Fin cfg0.N) (f : (main_arg0 : Ref sig .tc).ty.Contents (Elt F)) : (win0_0.blk t).view.read (Elt F) f = f :=
  funext fun y => congrArg f (funext fun a => Fin.ext (win0_0.rect_emb_val_of_index_zero t a rfl y))
theorem read1 (t : Fin cfg0.N) (f : (main_arg1 : Ref sig .tc).ty.Contents (Elt F)) : (win0_1.blk t).view.read (Elt F) f = f :=
  funext fun y => congrArg f (funext fun a => Fin.ext (win0_1.rect_emb_val_of_index_zero t a rfl y))
theorem read2 (t : Fin cfg0.N) (f : (main_c : Ref sig .tc).ty.Contents (Elt F)) : (win0_2.blk t).view.read (Elt F) f = f :=
  funext fun y => congrArg f (funext fun a => Fin.ext (win0_2.rect_emb_val_of_index_zero t a rfl y))
theorem read3 (t : Fin cfg0.N) (f : (main_v1 : Ref sig .tc).ty.Contents (Elt F)) : (win0_3.blk t).view.read (Elt F) f = f :=
  funext fun y => congrArg f (funext fun a => Fin.ext (win0_3.rect_emb_val_of_index_zero t a rfl y))

/-- An operand whose array the body leaves alone is staged whole. -/
theorem staged (c : Dev nD) (w : Fin 4) (hw : (cfg0.win w).isOut = false)
    (hcut : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dat m c).after w t) = (dat m c).blockOf w t) (t : Fin cfg0.N) (d) :
    (dat m c).before w t d = (dat m c).fetched w t d :=
  (dat m c).before_in_eq_fetched w hw (fun _ => rfl) hcut hk t d

theorem staged0 (c : Dev nD) (t : Fin cfg0.N) (d) : (dat m c).before 0 t d = xIn m c :=
  (staged m c 0 rfl (fun _ _ _ => rfl) (fun t => ((read0 t _).trans (V₁_arg0 m c)).symm) t d).trans ((read0 t _).trans (V₁_arg0 m c))
theorem staged1 (c : Dev nD) (t : Fin cfg0.N) (d) : (dat m c).before 1 t d = wIn m c :=
  (staged m c 1 rfl (fun _ _ _ => rfl) (fun t => ((read1 t _).trans (V₁_arg1 m c)).symm) t d).trans ((read1 t _).trans (V₁_arg1 m c))
theorem staged2 (c : Dev nD) (t : Fin cfg0.N) (d) : (dat m c).before 2 t d = (table : (cc0_stg2_0 : Ref sig .tc).ty.Contents (Elt F)) :=
  (staged m c 2 rfl (fun _ _ _ => rfl) (fun t => ((read2 t _).trans (V₁_table m c)).symm) t d).trans ((read2 t _).trans (V₁_table m c))

/-- After the call the result's array holds the computed block. -/
theorem result_after (c : Dev nD) : (dat m c).arrAt 3 cfg0.N = outIn m c :=
  (read3 t0_0 _).symm.trans ((dat m c).read_blk_arrAt_eq_flushed 3
    (fun t t' _ _ h => absurd ((fin_N0 t).trans (fin_N0 t').symm) h) cfg0.N t0_0 t0_0.isLt (flush0_3 t0_0))

/-! ## The body, as the pipeline calls it -/

/-- A whole staging buffer, at contents known by an equation. -/
def stg (c : Dev nD) (b : Ref sig .tc) (X : b.ty.Contents (Elt F)) : sProp 𝕄 := iprop(∃ f, ⌜f = X⌝ ∗ pts c b f)
theorem stg_eq (c : Dev nD) (b : Ref sig .tc) (X : b.ty.Contents (Elt F)) : (stg c b X : sProp 𝕄) ⊢ pts c b X := by
  unfold stg; iintro ⟨%f, %e, H⟩; subst e; iexact H
theorem eq_stg (c : Dev nD) (b : Ref sig .tc) (X : b.ty.Contents (Elt F)) : (pts c b X : sProp 𝕄) ⊢ stg c b X := by
  unfold stg; iintro H; iexists X; isplitr; · ipureintro; rfl
  iexact H

/-- The body of the kernel does what the pipeline asks of it. -/
theorem body_ok (c : Dev nD) : BodyObligation (dat (F := F) m c) defs₀ 𝒱₀ () Set.univ := fun t => by
  obtain rfl := fin_N0 t
  rw [bigSep_W0, bigSep_W0]
  simp only [owns_whole_eq]
  rw [show (dat m c).Φ t0_0.castSucc = before m c from rfl, show (dat m c).Φ t0_0.succ = after c from rfl]
  show iprop(before m c ∗ (dat m c).owesAt () t0_0.castSucc
      ∗ (∃ d, stg c cc0_stg0_0 ((dat m c).before 0 t0_0 d)) ∗ (∃ d, stg c cc0_stg1_0 ((dat m c).before 1 t0_0 d))
      ∗ (∃ d, stg c cc0_stg2_0 ((dat m c).before 2 t0_0 d)) ∗ (∃ d, stg c cc0_stg3_0 ((dat m c).before 3 t0_0 d)))
    ⊢ wp frame (wpE defs₀ 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _) cc0_scratch2 cc0_scratch3)
      (fun _ => iprop(after c ∗ (dat m c).owesAt () t0_0.succ ∗ stg c cc0_stg0_0 (xIn m c) ∗ stg c cc0_stg1_0 (wIn m c)
        ∗ stg c cc0_stg2_0 table ∗ stg c cc0_stg3_0 (outIn m c)))
  simp only [staged0, staged1, staged2]
  unfold before after
  iintro ⟨⟨⟨%K, Ht⟩, ⟨Hs0, Hs1⟩, Hp⟩, HO, ⟨%d0, HX⟩, ⟨%d1, HW⟩, ⟨%d2, HT⟩, ⟨%d3, Ho⟩⟩
  ihave HO := (owes_in m c t0_0.castSucc (O₀ c) (owed_first m c)) $$ HO
  iapply (body_run (xbIn m) K c (xIn m c) (wIn m c) rfl)
  isplitl [Ht]; · iexact Ht
  isplitl [HX]; · iapply (stg_eq c cc0_stg0_0 (xIn m c)); iexact HX
  isplitl [HW]; · iapply (stg_eq c cc0_stg1_0 (wIn m c)); iexact HW
  isplitl [HT]; · iapply (stg_eq c cc0_stg2_0 table); iexact HT
  isplitl [Ho]; · iexists _; iapply (stg_eq c cc0_stg3_0 _); iexact Ho
  isplitl [Hs0]; · iexact Hs0
  isplitl [Hs1]; · iexact Hs1
  isplitl [HO]; · iexact HO
  iintro ⟨Ht, HX, HW, HT, Ho, Hs0, Hs1, HO⟩
  isplitl [Ht Hs0 Hs1 Hp]
  · isplitl [Ht]; · iexact Ht
    isplitl [Hs0 Hs1]; · isplitl [Hs0] <;> iassumption
    iexact Hp
  isplitl [HO]; · iapply (owes_out m c t0_0.succ 0 (owed_last m c)); iexact HO
  isplitl [HX]; · iapply (eq_stg c cc0_stg0_0 (xIn m c)); iexact HX
  isplitl [HW]; · iapply (eq_stg c cc0_stg1_0 (wIn m c)); iexact HW
  isplitl [HT]; · iapply (eq_stg c cc0_stg2_0 table); iexact HT
  iapply (eq_stg c cc0_stg3_0 (outIn m c)); iexact Ho

/-! ## Entering and leaving the call -/

/-- The semaphores of the transfers: those that count departures, then those that count arrivals. -/
def osem (k : Fin 2 × Dev nD) : SemLoc sig := if k.1 = 0 then .dma (semAt cc0_scratch2 k.2) else .dma (semAt cc0_scratch3 k.2)

theorem osem_ok : Pipeline.OwnSemFacts spec0 osem := by decide

theorem own_sems (c : Dev nD) : (Pipeline.ownSems0 osem c : sProp 𝕄)
    = iprop(bigSep Finset.univ (fun j => semVal (sendCell c j) 0) ∗ bigSep Finset.univ (fun j => semVal (recvCell c j) 0)) := by
  unfold Pipeline.ownSems0
  rw [bigSep_univ_prod, bigSep_fin_two]
  rfl

/-- What device `c` keeps towards device `j` until the call: the duties that it will do, and the right to open its own
    two semaphores. -/
def linkWith (c j : Dev nD) : sProp 𝕄 :=
  iprop(dutyTok ER (barCell j) 0 c ∗ dutyTok ER (sendCell c j) 0 c ∗ dutyTok ER (recvCell j c) 0 c
    ∗ openTok ER (sendCell c j) ∗ openTok ER (recvCell c j) ∗ cred (tallyAt (recvCell c j) () N))

/-- What device `c` keeps until the call. -/
def kept (c : Dev nD) : sProp 𝕄 :=
  iprop((∃ K, world (xbIn m) K ∗ bigSep (Finset.univ.erase c) (linkWith c) ∗ atPos ER (barCell c) 0 ∅ 0)
    ∗ cred (tallyAt (barCell c) () 7))

/-- One peer's two semaphores are opened. -/
theorem open_link (K : GSem nD τ sig → ℕ) (c j : Dev nD) (h : j ≠ c) :
    (iprop(world (xbIn m) K ∗ linkWith c j ∗ semVal (sendCell c j) 0 ∗ semVal (recvCell c j) 0) : sProp 𝕄)
      ⊢ |={Set.univ}=> talkWith c j := by
  unfold linkWith talkWith recvRes
  iintro ⟨#Hw, ⟨HtB, HtS, HtR, HoS, HoR, Hc⟩, Hs, Hr⟩
  ihave #HIs := (world_send (xbIn m) K h) $$ Hw
  ihave #HIr := (world_recv (xbIn m) K h) $$ Hw
  imod (Rounds.cell_open ER (sched (xbIn m)) (g := sendCell c j) (Set.mem_univ (K (sendCell c j)))) $$ [HoS Hs] with ⟨HaS, #HrS⟩
  · isplitr; · iexact HIs
    isplitl [HoS] <;> iassumption
  imod (Rounds.cell_open ER (sched (xbIn m)) (g := recvCell c j) (Set.mem_univ (K (recvCell c j)))) $$ [HoR Hr] with ⟨HaR, #HrR⟩
  · isplitr; · iexact HIr
    isplitl [HoR] <;> iassumption
  imodintro
  isplitl [HtB]
  · isplitl [HtB]; · iexact HtB
    iexact HrR
  isplitl [HtS HtR]
  · isplitl [HtS]; · iexact HtS
    isplitr; · iexact HrS
    iexact HtR
  isplitl [Hc HaR]
  · isplitl [Hc]; · iexact Hc
    iexact HaR
  iexact HaS

/-- All of them are. -/
theorem open_links (K : GSem nD τ sig → ℕ) (c : Dev nD) :
    (iprop(world (xbIn m) K ∗ bigSep (Finset.univ.erase c) (linkWith c)
        ∗ bigSep (Finset.univ.erase c) (fun j => semVal (sendCell c j) 0) ∗ bigSep (Finset.univ.erase c) (fun j => semVal (recvCell c j) 0)) : sProp 𝕄)
      ⊢ |={Set.univ}=> bigSep (Finset.univ.erase c) (talkWith c) := by
  rw [← bigSep_sep', ← bigSep_sep']
  exact (bigSep_with_persistent fun j hj => open_link m K c j (Finset.ne_of_mem_erase hj)).trans (bigSep_fupd _ _)

/-- When the call is entered the transfers' semaphores come into use. -/
theorem entering (c : Dev nD) :
    iprop(kept m c ∗ Pipeline.ownSems0 osem c ∗ levAts L lv) ⊢ (|={Set.univ}=> (∃ K, talkIn (xbIn m) K c) : sProp 𝕄) := by
  rw [own_sems, with_own c (fun j => semVal (sendCell c j) 0), with_own c (fun j => semVal (recvCell c j) 0)]
  unfold kept talkIn
  iintro ⟨⟨⟨%K, #Hw, Hl, Ha⟩, Hc⟩, ⟨⟨Hs0, Hs⟩, ⟨Hr0, Hr⟩⟩, #Hlev⟩
  imod (open_links m K c) $$ [Hl Hs Hr] with Ht
  · isplitr; · iexact Hw
    isplitl [Hl]; · iexact Hl
    isplitl [Hs] <;> iassumption
  imodintro
  iexists K
  isplitr; · iexact Hw
  isplitr; · iexact Hlev
  isplitl [Ht]; · iexact Ht
  isplitl [Ha Hc]; · isplitl [Ha] <;> iassumption
  isplitl [Hs0] <;> iassumption

theorem entered (c : Dev nD) :
    iprop(Pipeline.scopedRest (Pipeline.pin (pcfgs (F := F)) adm 0).spec c ∗ (∃ r, prngReg c r)
        ∗ StableHlo.held (c.tc : Thread nD τ) ∅ (V₁ m c) ∗ ∃ K, talkIn (xbIn m) K c)
      ⊢ ((pdats m 0 c).Φ 0 : sProp 𝕄) := by
  rw [show (pdats m 0 c).Φ 0 = before m c from rfl, show (Pipeline.scopedRest (Pipeline.pin (pcfgs (F := F)) adm 0).spec c : sProp 𝕄) = _ from scopedRest0_eq c]
  unfold before
  iintro ⟨Hs, Hp, -, Ht⟩
  isplitl [Ht]; · iexact Ht
  isplitl [Hs]; · iexact Hs
  iexact Hp

/-- The memory after the call. -/
def V₂ (c : Dev nD) : Valuation τ sig (Elt F) := Pipeline.withArrays spec0 c (V₁ m c) (fun w => (dat m c).arrAt w cfg0.N)

theorem leaving (c : Dev nD) :
    ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r)
        ∗ StableHlo.held (c.tc : Thread nD τ) ∅ (V₂ m c) ∗ Pipeline.ownSems0 osem c ∗ semVal (barCell c) 0) := by
  rw [show (pdats m 0 c).Φ (Fin.last _) = after c from rfl, own_sems,
    show (Pipeline.scopedRest (Pipeline.pin (pcfgs (F := F)) adm 0).spec c : sProp 𝕄) = _ from scopedRest0_eq c]
  unfold after talkOut StableHlo.held
  rw [bigSep_empty]
  iintro ⟨⟨Hb, Hs, Hr⟩, Hsc, Hp⟩
  isplitl [Hsc]; · iexact Hsc
  isplitl [Hp]; · iexact Hp
  isplitr; · iempintro
  isplitl [Hs Hr]; · isplitl [Hs] <;> iassumption
  iexact Hb

theorem V₂_arg0 (c : Dev nD) : V₂ m c (Proc.devRef .tc main_arg0) = xIn m c :=
  (Pipeline.withArrays_arr spec0 winFacts0.arr_inj c (V₁ m c) _ 0).trans (((dat m c).arrAt_in 0 rfl _).trans (V₁_arg0 m c))
theorem V₂_arg1 (c : Dev nD) : V₂ m c (Proc.devRef .tc main_arg1) = wIn m c :=
  (Pipeline.withArrays_arr spec0 winFacts0.arr_inj c (V₁ m c) _ 1).trans (((dat m c).arrAt_in 1 rfl _).trans (V₁_arg1 m c))
theorem V₂_result (c : Dev nD) : V₂ m c (Proc.devRef .tc main_v1) = outIn m c :=
  (Pipeline.withArrays_arr spec0 winFacts0.arr_inj c (V₁ m c) _ 3).trans (result_after m c)

/-- All that a device owes comes after the staging. -/
theorem owed_later (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨j, rfl⟩ | ⟨j, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem staging_low : ∀ (w : Fin 4) (s : Fin (win0 w).nbuf), ((win0 w).sem s).val < 12 := by decide

theorem share_full (c : Dev nD) (w : Fin 4) : (pdats (F := F) m 0 c).share w = fullShare := by
  show (dat m c).share w = fullShare
  unfold Dat.share; split <;> rfl

set_option backward.isDefEq.respectTransparency.types false in
/-- The call as a part of the program. -/
def call : Pipeline.RegionSeg (Name := ℕ) (U := UU) (pcfgs (F := F)) adm (pdats m) () defs₀ 𝒱₀ L lv 0 :=
  Pipeline.RegionSeg.ofTalk (pcfgs (F := F)) adm (pdats m) () defs₀ 𝒱₀ L lv 0 osem osem_ok
    ∅ ∅ (Finset.Subset.refl _) launch0.toP rfl (fun c => (body_ok m c).loose)
    (fun _ => 0) O₀ (fun c => (owed_zero m c).trans (zero_add _).symm) (owed_last m) (fun _ => rfl) (share_full m)
    (V₁ m) (V₂ m) (fun _ b hb => absurd hb (by rw [Finset.sdiff_self]; exact Finset.notMem_empty b))
    (kept m) (fun c => semVal (barCell c) 0) (fun c => iprop(∃ K, talkIn (xbIn m) K c)) (fun c => semVal (barCell c) 0)
    (entering m) (entered m) (leaving m)
    (fun c => by iintro H; imodintro; iexact H)
    (fun _ => 0)
    ⟨fun c w s => by rw [L_tc]; exact Finset.mem_singleton_self _,
     fun c w s => by
       show (if ((win0 w).sem s).val < 12 then 0 else 2) ≤ 0
       rw [if_pos (staging_low w s)],
     fun c t g i h => owed_later m c t g i h⟩
    (fun _ => iprop(emp))
    (fun _ _ => rfl)
    (fun c w => (Pipeline.withArrays_arr spec0 winFacts0.arr_inj c (V₁ m c) (fun w => (dat m c).arrAt w cfg0.N) w).symm)

end Cert.Exchange

end

end
-- ==== Proof.Launch.lean ====
/-
# The launch

How the cells, the duties and the credits of the exchange are dealt to the eight devices, and the run of the whole
program, over any float values.
-/
module

public import proofs.«01_k».proof.Proof.Region
public import Idealize.ShloMosaic.Harness.Basic
public import Idealize.ShloMosaic.Lib.Quiescent

@[expose] public section

set_option maxRecDepth 4000

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## The credits -/

theorem send_inj {i j : Dev nD} (h : semAt cc0_scratch2 i = semAt cc0_scratch2 j) : i = j := by
  have e := congrArg Fin.val h
  rw [sendSem_val, sendSem_val] at e
  exact Fin.ext (Nat.add_left_cancel e)
theorem recv_inj {i j : Dev nD} (h : semAt cc0_scratch3 i = semAt cc0_scratch3 j) : i = j := by
  have e := congrArg Fin.val h
  rw [recvSem_val, recvSem_val] at e
  exact Fin.ext (Nat.add_left_cancel e)
theorem send_ne_recv (i j : Dev nD) : semAt cc0_scratch2 i ≠ semAt cc0_scratch3 j := fun h => by
  have e := congrArg Fin.val h
  rw [sendSem_val, recvSem_val] at e
  have hi : i.val < 8 := i.isLt
  omega

theorem dma_of {c d : Dev nD} {p q : DmaSem sig}
    (h : (((c : Thread nD τ), .dma p) : GSem nD τ sig) = ((d : Thread nD τ), .dma q)) : c = d ∧ p = q :=
  ⟨congrArg (fun g : GSem nD τ sig => g.1.1) h, SemLoc.dma.inj (congrArg Prod.snd h)⟩
theorem bar_of {c d : Dev nD} (h : barCell c = barCell d) : c = d := congrArg (fun g : GSem nD τ sig => g.1.1) h
theorem bar_ne_dma (c d : Dev nD) (p : DmaSem sig) : barCell c ≠ ((d : Thread nD τ), .dma p) := fun h => by
  have e : (SemLoc.reg barrier0 : SemLoc sig) = .dma p := congrArg Prod.snd h
  cases e

theorem owedRec_bar (d c : Dev nD) (l : List (Dev nD)) : owedRec d l (barCell c) () = 0 := by
  induction l with
  | nil => rfl
  | cons j l ih =>
    show owedRec d l (barCell c) () + tallyAt (recvCell j d) () N (barCell c) () = 0
    rw [ih, tallyAt_apply, if_neg fun h => bar_ne_dma c j _ h.1]
theorem owedRec_recv (d c i : Dev nD) (l : List (Dev nD)) :
    owedRec d l (recvCell c i) () = if i = d then l.count c * N else 0 := by
  induction l with
  | nil => show 0 = _; rw [List.count_nil, Nat.zero_mul, ite_self]
  | cons j l ih =>
    show owedRec d l (recvCell c i) () + tallyAt (recvCell j d) () N (recvCell c i) () = _
    rw [ih, tallyAt_apply, List.count_cons]
    by_cases hi : i = d
    · subst hi
      by_cases hj : j = c
      · subst hj; rw [if_pos rfl, if_pos ⟨rfl, rfl⟩, if_pos rfl, if_pos (beq_self_eq_true j), Nat.add_mul, Nat.one_mul]
      · rw [if_pos rfl, if_pos rfl, if_neg fun h => hj (dma_of h.1).1.symm, if_neg (by rw [beq_iff_eq]; exact hj), Nat.add_zero, Nat.add_zero]
    · rw [if_neg hi, if_neg hi, if_neg fun h => hi (recv_inj (dma_of h.1).2)]
theorem owedBar_bar (O : CellTallies nD τ sig Unit) (c : Dev nD) (l : List (Dev nD)) :
    owedBar O l (barCell c) () = O (barCell c) () + l.count c := by
  induction l with
  | nil => rfl
  | cons j l ih =>
    show owedBar O l (barCell c) () + tallyAt (barCell j) () 1 (barCell c) () = _
    rw [ih, tallyAt_apply, List.count_cons]
    by_cases hj : j = c
    · subst hj; rw [if_pos ⟨rfl, rfl⟩, if_pos (beq_self_eq_true j), Nat.add_assoc]
    · rw [if_neg fun h => hj (bar_of h.1).symm, if_neg (by rw [beq_iff_eq]; exact hj), Nat.add_zero, Nat.add_zero]
theorem owedBar_recv (O : CellTallies nD τ sig Unit) (c i : Dev nD) (l : List (Dev nD)) :
    owedBar O l (recvCell c i) () = O (recvCell c i) () := by
  induction l with
  | nil => rfl
  | cons j l ih =>
    show owedBar O l (recvCell c i) () + tallyAt (barCell j) () 1 (recvCell c i) () = _
    rw [ih, tallyAt_apply, if_neg fun h => bar_ne_dma j c _ h.1.symm, Nat.add_zero]

theorem mem_peers (d c : Dev nD) : c ∈ peers d ↔ c ≠ d := by
  rw [← List.mem_toFinset, peers_all, Finset.mem_erase]; exact and_iff_left (Finset.mem_univ c)
theorem mem_sreep (d c : Dev nD) : c ∈ sreep d ↔ c ≠ d := by
  rw [← List.mem_toFinset, sreep_all, Finset.mem_erase]; exact and_iff_left (Finset.mem_univ c)

/-- Device `d` owes every other device's barrier one unit, -/
theorem owed_bar (d c : Dev nD) : O₀ d (barCell c) () = if c ≠ d then 1 else 0 := by
  unfold O₀
  rw [owedBar_bar, owedRec_bar, Nat.zero_add, (peers_nodup d).count]
  exact if_congr (mem_peers d c) rfl rfl
/-- and device `c`'s arrivals from `d` one transfer. -/
theorem owed_recv (d c i : Dev nD) (h : i ≠ c) : O₀ d (recvCell c i) () = if i = d then N else 0 := by
  unfold O₀
  rw [owedBar_recv, owedRec_recv]
  by_cases hi : i = d
  · subst hi
    rw [if_pos rfl, if_pos rfl, (sreep_nodup i).count, if_pos ((mem_sreep i c).mpr h.symm), Nat.one_mul]
  · rw [if_neg hi, if_neg hi]

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem credit_recv (c i : Dev nD) (h : i ≠ c) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i h,
    Finset.sum_ite_eq Finset.univ i fun _ => N, if_pos (Finset.mem_univ _)]

/-- The semaphores that count the arrivals at a device. -/
def recvSem : Dev nD ↪ SemLoc sig := ⟨fun j => .dma (semAt cc0_scratch3 j), fun _ _ h => recv_inj (SemLoc.dma.inj h)⟩

/-- What the others owe device `c`. -/
def due (c : Dev nD) : sProp 𝕄 :=
  iprop(cred (tallyAt (barCell c) () 7) ∗ bigSep (Finset.univ.erase c) fun j => cred (tallyAt (recvCell c j) () N))

theorem credits (c : Dev nD) : (Pipeline.launchCred O₀ c : sProp 𝕄) ⊢ due c := by
  unfold Pipeline.launchCred due
  rw [bigSep_univ_at _ (SemLoc.reg barrier0), credit_bar]
  have hs : (Finset.univ.erase c).map recvSem ⊆ Finset.univ.erase (SemLoc.reg barrier0) := fun s hs => by
    obtain ⟨j, -, rfl⟩ := Finset.mem_map.mp hs
    exact Finset.mem_erase.mpr ⟨show SemLoc.dma _ ≠ SemLoc.reg _ from nofun, Finset.mem_univ _⟩
  refine sep_mono_right ((bigSep_subset hs).trans ?_)
  rw [bigSep_map]
  refine bigSep_mono fun j hj => ?_
  show BIBase.Entails (cred (tallyOn (recvCell c j) (launchCredit (Pipeline.owing O₀) 0 (recvCell c j)))) (cred (tallyAt (recvCell c j) () N))
  rw [credit_recv c j (Finset.ne_of_mem_erase hj)]

/-! ## The cells and the duties -/

theorem big_join {I : Type} [DecidableEq I] {s t : Finset I} (h : Disjoint s t) {Φ : I → sProp 𝕄} :
    bigSep (s ∪ t) Φ = iprop(bigSep s Φ ∗ bigSep t Φ) := bigSep_union h

theorem over_pairs (Φ : Dev nD × Dev nD → sProp 𝕄) :
    bigSep offDiag Φ = bigSep Finset.univ fun c => bigSep (Finset.univ.erase c) fun j => Φ (c, j) := by
  unfold offDiag
  rw [bigSep_filter, bigSep_univ_prod]
  refine bigSep_congr fun c _ => ?_
  rw [← Finset.filter_ne' Finset.univ c, bigSep_filter]
  exact bigSep_congr fun j _ => if_congr ne_comm rfl rfl

def barEmb : Dev nD ↪ GSem nD τ sig := ⟨barCell, fun _ _ h => bar_of h⟩
def sendEmb : Dev nD × Dev nD ↪ GSem nD τ sig :=
  ⟨fun x => sendCell x.1 x.2, fun _ _ h => Prod.ext (dma_of h).1 (send_inj (dma_of h).2)⟩
def recvEmb : Dev nD × Dev nD ↪ GSem nD τ sig :=
  ⟨fun x => recvCell x.1 x.2, fun _ _ h => Prod.ext (dma_of h).1 (recv_inj (dma_of h).2)⟩

abbrev barCells : Finset (GSem nD τ sig) := Finset.univ.map barEmb
abbrev sendCells : Finset (GSem nD τ sig) := offDiag.map sendEmb
abbrev recvCells : Finset (GSem nD τ sig) := offDiag.map recvEmb

theorem send_recv_disjoint : Disjoint sendCells recvCells := by
  rw [Finset.disjoint_left]
  rintro g h₁ h₂
  obtain ⟨x, -, rfl⟩ := Finset.mem_map.mp h₁
  obtain ⟨y, -, h⟩ := Finset.mem_map.mp h₂
  exact send_ne_recv x.2 y.2 (dma_of h).2.symm
theorem bar_disjoint : Disjoint barCells (sendCells ∪ recvCells) := by
  rw [Finset.disjoint_left]
  rintro g h₁ h₂
  obtain ⟨c, -, rfl⟩ := Finset.mem_map.mp h₁
  rcases Finset.mem_union.mp h₂ with h₂ | h₂
  · obtain ⟨y, -, h⟩ := Finset.mem_map.mp h₂
    exact bar_ne_dma c _ _ h.symm
  · obtain ⟨y, -, h⟩ := Finset.mem_map.mp h₂
    exact bar_ne_dma c _ _ h.symm

/-- The duties that device `x.1` does for device `x.2`: its signal, -/
def barTok : Dev nD × Dev nD ↪ GSem nD τ sig × ℕ × Dev nD :=
  ⟨fun x => (barCell x.2, 0, x.1), fun _ _ h => Prod.ext (congrArg (fun t : GSem nD τ sig × ℕ × Dev nD => t.2.2) h) (bar_of (congrArg Prod.fst h))⟩
/-- the departure of its transfer, -/
def sendTok : Dev nD × Dev nD ↪ GSem nD τ sig × ℕ × Dev nD :=
  ⟨fun x => (sendCell x.1 x.2, 0, x.1), fun _ _ h => sendEmb.injective (congrArg Prod.fst h)⟩
/-- and its arrival. -/
def recvTok : Dev nD × Dev nD ↪ GSem nD τ sig × ℕ × Dev nD :=
  ⟨fun x => (recvCell x.2 x.1, 0, x.1), fun x y h =>
    have e : (x.2, x.1) = (y.2, y.1) := recvEmb.injective (congrArg Prod.fst h)
    Prod.ext (congrArg Prod.snd e) (congrArg Prod.fst e)⟩

def toks : Finset (GSem nD τ sig × ℕ × Dev nD) := offDiag.map barTok ∪ (offDiag.map sendTok ∪ offDiag.map recvTok)

theorem tok_disjoint₁ : Disjoint (offDiag.map sendTok) (offDiag.map recvTok) := by
  rw [Finset.disjoint_left]
  rintro g h₁ h₂
  obtain ⟨x, -, rfl⟩ := Finset.mem_map.mp h₁
  obtain ⟨y, -, h⟩ := Finset.mem_map.mp h₂
  exact send_ne_recv x.2 y.1 (dma_of (congrArg Prod.fst h)).2.symm
theorem tok_disjoint₂ : Disjoint (offDiag.map barTok) (offDiag.map sendTok ∪ offDiag.map recvTok) := by
  rw [Finset.disjoint_left]
  rintro g h₁ h₂
  obtain ⟨x, -, rfl⟩ := Finset.mem_map.mp h₁
  rcases Finset.mem_union.mp h₂ with h₂ | h₂
  · obtain ⟨y, -, h⟩ := Finset.mem_map.mp h₂
    exact bar_ne_dma _ _ _ (congrArg Prod.fst h).symm
  · obtain ⟨y, -, h⟩ := Finset.mem_map.mp h₂
    exact bar_ne_dma _ _ _ (congrArg Prod.fst h).symm

/-- A resource that device 0 keeps for all. -/
def onZero (X : sProp 𝕄) (c : Dev nD) : sProp 𝕄 := if c = 0 then X else iprop(emp)
theorem on_zero (X : sProp 𝕄) : bigSep Finset.univ (onZero X) = X := by
  rw [bigSep_univ_at _ 0, bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

/-- The ghost state at launch. -/
def ghost₀ : UU :=
  (initOf (Pipeline.cells (Pipeline.pin (pcfgs (F := F)) adm) cellOf_inj) (Pipeline.launchToks (Pipeline.pin (pcfgs (F := F)) adm) cellOf_inj),
    launchOf barCells (sendCells ∪ recvCells) toks)

/-- The exchange's part of it, with device 0. -/
def dealer : Dev nD → sProp 𝕄 := onZero (BI.own (ER (launchOf barCells (sendCells ∪ recvCells) toks)))

variable (m : (ℓ : Loc nD τ sig) → Buf (Elt F) ℓ)

/-- What device `c` is dealt towards device `j`, the credit apart, -/
def linkGhost (c j : Dev nD) : sProp 𝕄 :=
  iprop((dutyTok ER (barCell j) 0 c ∗ dutyTok ER (sendCell c j) 0 c ∗ dutyTok ER (recvCell j c) 0 c)
    ∗ openTok ER (sendCell c j) ∗ openTok ER (recvCell c j))
/-- and in all. -/
def dealt (c : Dev nD) : sProp 𝕄 := iprop(atPos ER (barCell c) 0 ∅ 0 ∗ bigSep (Finset.univ.erase c) (linkGhost c))

theorem toks_dealt : bigSep toks (fun x => (dutyTok ER x.1 x.2.1 x.2.2 : sProp 𝕄))
    = bigSep offDiag fun x => iprop(dutyTok ER (barCell x.2) 0 x.1 ∗ dutyTok ER (sendCell x.1 x.2) 0 x.1 ∗ dutyTok ER (recvCell x.2 x.1) 0 x.1) := by
  unfold toks
  rw [big_join tok_disjoint₂, big_join tok_disjoint₁, bigSep_map, bigSep_map, bigSep_map, bigSep_sep', bigSep_sep']
  rfl
theorem opens_dealt : bigSep (sendCells ∪ recvCells) (fun g => (openTok ER g : sProp 𝕄))
    = bigSep offDiag fun x => iprop(openTok ER (sendCell x.1 x.2) ∗ openTok ER (recvCell x.1 x.2)) := by
  rw [big_join send_recv_disjoint, bigSep_map, bigSep_map, bigSep_sep']
  rfl

theorem deal : (iprop(bigSep barCells (fun g => atPos ER g 0 ∅ 0) ∗ bigSep (sendCells ∪ recvCells) (fun g => openTok ER g)
      ∗ bigSep toks (fun x => dutyTok ER x.1 x.2.1 x.2.2)) : sProp 𝕄) ⊢ bigSep Finset.univ dealt := by
  rw [toks_dealt, opens_dealt]
  iintro ⟨Ha, Ho, Ht⟩
  unfold dealt
  iapply bigSep_pair
  isplitl [Ha]
  · iapply (Entails.of_eq (bigSep_map (s := Finset.univ) barEmb (Φ := fun g : GSem nD τ sig => (atPos ER g 0 ∅ 0 : sProp 𝕄)))); iexact Ha
  iapply (Entails.of_eq (over_pairs (F := F) fun x => linkGhost x.1 x.2))
  unfold linkGhost
  iapply (Entails.of_eq (bigSep_sep' (s := offDiag)
    (Φ := fun x => (iprop(dutyTok ER (barCell x.2) 0 x.1 ∗ dutyTok ER (sendCell x.1 x.2) 0 x.1 ∗ dutyTok ER (recvCell x.2 x.1) 0 x.1) : sProp 𝕄))
    (Ψ := fun x => iprop(openTok ER (sendCell x.1 x.2) ∗ openTok ER (recvCell x.1 x.2)))).symm)
  isplitl [Ht] <;> iassumption

theorem world_of (K : GSem nD τ sig → ℕ) :
    (iprop(bigSep (barCells ∪ (sendCells ∪ recvCells)) (fun g => cellInv ER (sched (xbIn m)) (K g) g) ∗ bigSep barCells (fun g => reached ER g 0)) : sProp 𝕄)
      ⊢ world (xbIn m) K := by
  rw [big_join bar_disjoint, big_join send_recv_disjoint, bigSep_map, bigSep_map, bigSep_map, bigSep_map]
  unfold world
  iintro ⟨⟨H1, H2, H3⟩, H4⟩
  isplitl [H1]; · iexact H1
  isplitl [H4]; · iexact H4
  isplitl [H2]; · iexact H2
  iexact H3

/-! ## What a device starts from -/

/-- What rides beside the memory until the call. -/
def beside (c : Dev nD) : sProp 𝕄 := iprop(kept m c ∗ (∃ r, prngReg c r) ∗ owing c (O₀ c))

/-- What a device starts from. -/
abbrev starts (c : Dev nD) : sProp 𝕄 := iprop(StableHlo.held (c : Thread nD τ) (Pipeline.ucRefs τ sig) (V₀ m c) ∗ beside m c)
/-- What it ends with. -/
abbrev ends (c : Dev nD) : sProp 𝕄 := iprop(StableHlo.held (c : Thread nD τ) (Pipeline.ucRefs τ sig) (V₂ m c) ∗ semVal (barCell c) 0)

/-- What of it is no ghost state of the exchange. -/
def plain (c : Dev nD) : sProp 𝕄 :=
  iprop(StableHlo.held (c : Thread nD τ) (Pipeline.ucRefs τ sig) (V₀ m c) ∗ due c ∗ (∃ r, prngReg c r) ∗ owing c (O₀ c))

theorem links_of (c : Dev nD) :
    (iprop(bigSep (Finset.univ.erase c) (linkGhost c) ∗ bigSep (Finset.univ.erase c) fun j => cred (tallyAt (recvCell c j) () N)) : sProp 𝕄)
      ⊢ bigSep (Finset.univ.erase c) (linkWith c) := by
  rw [← bigSep_sep']
  refine bigSep_mono fun j _ =>
    show iprop(linkGhost c j ∗ cred (tallyAt (recvCell c j) () N)) ⊢ linkWith c j from ?_
  unfold linkGhost linkWith
  iintro ⟨⟨⟨H1, H2, H3⟩, H4, H5⟩, H6⟩
  isplitl [H1]; · iexact H1
  isplitl [H2]; · iexact H2
  isplitl [H3]; · iexact H3
  isplitl [H4]; · iexact H4
  isplitl [H5] <;> iassumption

theorem starts_of (K : GSem nD τ sig → ℕ) (c : Dev nD) : (iprop(world (xbIn m) K ∗ (dealt c ∗ plain m c)) : sProp 𝕄) ⊢ starts m c := by
  unfold dealt plain starts beside kept due
  iintro ⟨#Hw, ⟨Ha, Hl⟩, Hh, ⟨Hb, Hr⟩, Hp, HO⟩
  isplitl [Hh]; · iexact Hh
  isplitr [Hp HO]
  · isplitr [Hb]
    · iexists K
      isplitr; · iexact Hw
      isplitl [Hl Hr]
      · iapply (links_of c); isplitl [Hl] <;> iassumption
      iexact Ha
    iexact Hb
  isplitl [Hp] <;> iassumption

variable (ρ : Dev nD → PrngReg)

theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What a device holds at launch. -/
def atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ dealer c)

theorem at_launch (c : Dev nD) : (atLaunch m ρ c : sProp 𝕄) ⊢ iprop(plain m c ∗ semVal (barCell c) 0 ∗ dealer c) := by
  unfold atLaunch
  rw [show unscopedBufs c (fun b => m ((c : Thread nD τ).loc b)) = StableHlo.held (c : Thread nD τ) (Pipeline.ucRefs τ sig) (V₀ m c) from
      Pipeline.unscopedBufs_held c (V₀ m c), unscoped_sems]
  unfold plain owing
  iintro ⟨Hh, Hs, HO, Hc, Hp, Hd⟩
  ihave Hc := (credits (F := F) c) $$ Hc
  isplitr [Hs Hd]
  · isplitl [Hh]; · iexact Hh
    isplitl [Hc]; · iexact Hc
    isplitl [Hp]; · iexists (ρ c); iexact Hp
    iexists ∅; iexact HO
  isplitl [Hs] <;> iassumption

/-- The launch: every device gets what it starts from. -/
theorem launching : (iprop((bigSep Finset.univ fun c : Dev nD => atLaunch m ρ c) ∗ levAts L lv) : sProp 𝕄)
    ⊢ |={Set.univ}=> bigSep Finset.univ (starts m) := by
  iintro ⟨H, -⟩
  ihave H := (show (bigSep Finset.univ fun c : Dev nD => atLaunch m ρ c)
      ⊢ (bigSep Finset.univ fun c : Dev nD => iprop(plain m c ∗ semVal (barCell c) 0 ∗ dealer c) : sProp 𝕄) from
    bigSep_mono fun c _ => at_launch m ρ c) $$ H
  ihave H := bigSep_unpair $$ H; icases H with ⟨HB, H⟩
  ihave H := bigSep_unpair $$ H; icases H with ⟨Hv, HG⟩
  ihave Hu := (show bigSep Finset.univ (dealer (F := F)) ⊢ BI.own (ER (launchOf barCells (sendCells ∪ recvCells) toks)) from
    Entails.of_eq (on_zero (F := F) (BI.own (ER (launchOf barCells (sendCells ∪ recvCells) toks))))) $$ HG
  imod (Rounds.fund_launch ER (sched (xbIn m)) bar_disjoint (fun g _ h => h) toks) $$ [Hv Hu] with ⟨%κ, -, #Hinv, #Hr, Hat, Hopen, Htok⟩
  · isplitl [Hv]
    · iapply (Entails.of_eq (bigSep_map (s := Finset.univ) barEmb (Φ := fun g : GSem nD τ sig => (semVal g 0 : sProp 𝕄))).symm); iexact Hv
    · iexact Hu
  imodintro
  iapply (bigSep_with_persistent (R := world (xbIn m) κ) (Φ := fun c => iprop(dealt c ∗ plain m c)) fun c _ => starts_of m κ c)
  isplitr
  · iapply (world_of m κ)
    isplitr; · iexact Hinv
    iexact Hr
  iapply bigSep_pair
  isplitr [HB]
  · iapply (deal (F := F))
    isplitl [Hat]; · iexact Hat
    isplitl [Hopen] <;> iassumption
  · iexact HB

/-! ## The run -/

/-- The host's operation before the call. -/
def host : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (V₀ m) (beside m)

def parts : List (Pipeline.Seg (pcfgs (F := F)) adm (pdats m) () defs₀ 𝒱₀ L lv) := [.host (host m), .region (call m)]

theorem refs_eq : Pipeline.ucRefs τ sig = Pipeline.arrRefs (τ := τ) spec0 := by decide

theorem call_pre (c : Dev nD) : (iprop(StableHlo.held (c : Thread nD τ) (Pipeline.ucRefs τ sig) (V₁ m c) ∗ beside m c) : sProp 𝕄) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ kept m c ∗ ∃ Wd, owes (c : Thread nD τ) (0 + O₀ c) Wd)
  rw [refs_eq, zero_add]
  unfold beside owing
  iintro ⟨Hh, Hk, Hp, HO⟩
  isplitl [Hh]; · iexact Hh
  isplitl [Hp]; · iexact Hp
  isplitr
  · isplitr
    · unfold StableHlo.held; rw [bigSep_empty]; iempintro
    iempintro
  isplitl [Hk] <;> iassumption

theorem call_post (c : Dev nD) : (call m).post c
    ⊢ (iprop(ends m c ∗ ∃ W, owes (c : Thread nD τ) (0 : CellTallies nD τ sig Unit) W) : sProp 𝕄) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ semVal (barCell c) 0 ∗ ∃ Wd, owes (c : Thread nD τ) (0 : CellTallies nD τ sig Unit) Wd) ⊢ _
  unfold ends
  rw [refs_eq]
  iintro ⟨Hh, -, -, Hb, HO⟩
  isplitr [HO]
  · isplitl [Hh] <;> iassumption
  iexact HO

theorem held_refs (c : Dev nD) (V : Valuation τ sig (Elt F)) : (StableHlo.held (c : Thread nD τ) (Pipeline.ucRefs τ sig) V : sProp 𝕄)
    = iprop(pts c main_arg0 (V main_arg0) ∗ pts c main_arg1 (V main_arg1) ∗ pts c main_c (V main_c) ∗ pts c main_v1 (V main_v1)) := by
  unfold StableHlo.held
  rw [bigSep_eq_bigSepL_of_eq [Proc.devRef .tc main_arg0, Proc.devRef .tc main_arg1, Proc.devRef .tc main_c, Proc.devRef .tc main_v1]
    (by decide) (by decide)]
  rfl

theorem unscoped_bar : ∀ sm : SemLoc sig, sm.isScoped .tc = false → sm = .reg barrier0 := by decide

set_option backward.isDefEq.respectTransparency.types false in
/-- From any memory with all counters at zero, the program ends on all eight devices, whatever the schedule; the
    arguments are unchanged, each device's result is the computed block, and all counters are at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outIn m c) ∧ r.2.sem = fun _ => 0) :=
  Pipeline.θ_run_regions_kit_sems (pcfgs (F := F)) adm (pdats m) () cellOf_inj EP defs₀ 𝒱₀ L lv m ρ main (parts m)
    (fun c Q => by rw [main_segs adm (pdats m) () 𝒱₀ L lv (host m) (call m) rfl c]; exact .rfl)
    (by simp only [parts, Pipeline.Seg.pipes_host, Pipeline.Seg.pipes_region, Pipeline.Seg.pipes_nil]; decide)
    (O₀ := O₀) (hL := L_of_ne) (G := dealer) (u₀ := ghost₀ (F := F))
    (hu₀ := by
      unfold ghost₀ dealer
      iintro Hu
      ihave H := (ownU_pair _ _) $$ Hu
      icases H with ⟨HP, HX⟩
      imodintro
      isplitl [HP]; · iexact HP
      rw [on_zero]; iexact HX)
    (T₀ := starts m) (Tₙ := ends m)
    (hch := ⟨fun c => .rfl, fun c => call_pre m c, fun c => call_post m c⟩)
    (hinit := launching m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v1).view.loc (c : Thread nD τ)) = V₂ m c main_v1) ∧ s.sem (barCell c) = 0)
    (hfin := fun c s' => by
      dsimp only [ends]; rw [held_refs]
      iintro ⟨⟨⟨Hx, Hw, -, Ho⟩, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => ⟨(h c).1.1.trans (V₂_arg0 m c), (h c).1.2.1.trans (V₂_arg1 m c), (h c).1.2.2.trans (V₂_result m c)⟩,
      sem_eq_zero hs fun c sm hsm => by
        obtain rfl := unscoped_bar sm hsm
        exact (h c).2⟩)

end Cert.Exchange

end

end
-- ==== Proof.Value.lean ====
/-
# The value

Over the extended reals: the sum of the eight block products that device `c` computes is its block of rows of the
product of the whole matrices.
-/
module

public import proofs.«01_k».proof.Proof.Region
public import Idealize.ShloMosaic.PureOps.Ideal.Laws
public import Idealize.ShloMosaic.Lib.MatmulPlain
public import Idealize.ShloMosaic.Lib.StackMember
public import Idealize.ShloMosaic.Lib.Layout
public import Idealize.ShloMosaic.Lib.Pipeline.Value

@[expose] public section

set_option maxRecDepth 4000

noncomputable section

namespace Cert.Exchange

open Cert.KernelIdeal Cert.KernelIdeal.Gen
open Idealize.ShloMosaic
open Idealize.ShloMosaic.TcCoe
open Idealize.ShloMosaic.ValueIdx
open scoped BigOperators

/-! ## The payloads at an element -/

/-- The zero that the products start from and that the result is compared with. -/
abbrev nought : EReal := Ideal.ofBits .f32 0x00000000#32

/-- One block product at row `r` and column `n`. -/
def blockDot (A : FVec Ideal S128x128 .f32) (B : FVec Ideal S128x1024 .f32) (r : Fin 128) (n : Fin 1024) : EReal :=
  ∑ k : Fin 128, A (ix2 r k) * B (ix2 k n)

theorem dot_at (A : FVec Ideal S128x128 .f32) (B : FVec Ideal S128x1024 .f32) (r : Fin 128) (n : Fin 1024) :
    matmul dot_S128x128_S128x1024_S128x1024_1_0_0_1_n_n none A B (constant (F := Ideal) S128x1024 .f32 0x00000000#32) (ix2 r n)
      = blockDot A B r n := by
  refine (Ideal.matmul_plain_apply (M := 128) (K := 128) (N := 1024) none A B _ r n).trans ?_
  show nought + _ = _
  rw [show nought = 0 from Ideal.ofBits_zero_f32, zero_add]
  rfl

/-- A slot as a matrix, its entries as they are. -/
def slab (g : Vec Ideal S1x128x128 .bf16) : FVec Ideal S128x128 .f32 := shapeCast S128x128 g shapeCasts_S1x128x128_S128x128

theorem pay2_at (A : Vec Ideal S128x128 .f32) (B : Vec Ideal S128x1024 .f32) (r : Fin 128) (n : Fin 1024) :
    k0_pay2 A B (ix2 r n) = blockDot A B r n := by
  unfold k0_pay2
  rw [shapeCast_self, shapeCast_self]
  exact dot_at A B r n

theorem slot_dot (g : Vec Ideal S1x128x128 .bf16) (B : Vec Ideal S128x1024 .f32) (r : Fin 128) (n : Fin 1024) :
    matmul dot_S128x128_S128x1024_S128x1024_1_0_0_1_n_n none
        (extf .f32 (shapeCast S128x128 g shapeCasts_S1x128x128_S128x128 : FVec Ideal S128x128 .bf16) bitsLt_bf16_f32)
        (shapeCast S128x1024 B shapeCasts_S128x1024_S128x1024 : FVec Ideal S128x1024 .f32) (constant (F := Ideal) S128x1024 .f32 0x00000000#32) (ix2 r n)
      = blockDot (slab g) B r n := by
  rw [shapeCast_self]
  exact dot_at (slab g) B r n

/-- Two more block products are added to what there was. -/
theorem pay3_at (a : FVec Ideal S128x1024 .f32) (g : Vec Ideal S1x128x128 .bf16) (B : Vec Ideal S128x1024 .f32)
    (g' : Vec Ideal S1x128x128 .bf16) (B' : Vec Ideal S128x1024 .f32) (r : Fin 128) (n : Fin 1024) :
    k0_pay3 a g B g' B' (ix2 r n) = a (ix2 r n) + blockDot (slab g) B r n + blockDot (slab g') B' r n := by
  rw [← slot_dot g B r n, ← slot_dot g' B' r n]; rfl
theorem pay4_at (a : FVec Ideal S128x1024 .f32) (g : Vec Ideal S1x128x128 .bf16) (B : Vec Ideal S128x1024 .f32)
    (g' : Vec Ideal S1x128x128 .bf16) (B' : Vec Ideal S128x1024 .f32) (r : Fin 128) (n : Fin 1024) :
    k0_pay4 a g B g' B' (ix2 r n) = a (ix2 r n) + blockDot (slab g) B r n + blockDot (slab g') B' r n := by
  rw [← slot_dot g B r n, ← slot_dot g' B' r n]; rfl
theorem pay5_at (a : FVec Ideal S128x1024 .f32) (g : Vec Ideal S1x128x128 .bf16) (B : Vec Ideal S128x1024 .f32)
    (g' : Vec Ideal S1x128x128 .bf16) (B' : Vec Ideal S128x1024 .f32) (r : Fin 128) (n : Fin 1024) :
    k0_pay5 a g B g' B' (ix2 r n) = a (ix2 r n) + blockDot (slab g) B r n + blockDot (slab g') B' r n := by
  rw [← slot_dot g B r n, ← slot_dot g' B' r n]; rfl
/-- The last one is added, and what is below zero is replaced. -/
theorem pay6_at (a : FVec Ideal S128x1024 .f32) (g : Vec Ideal S1x128x128 .bf16) (B : Vec Ideal S128x1024 .f32) (r : Fin 128) (n : Fin 1024) :
    k0_pay6 a g B (ix2 r n) = max (a (ix2 r n) + blockDot (slab g) B r n) nought := by
  rw [← slot_dot g B r n]; rfl

/-! ## The blocks read -/

/-- Row `r` of block `j`, among all. -/
def at8 (j : Dev nD) (r : Fin 128) : Fin 1024 := ⟨128 * j.val + r.val, by
  have hj : j.val < 8 := j.isLt
  have hr := r.isLt
  omega⟩

theorem xBlk_at (X : (cc0_stg0_0 : Ref sig .tc).ty.Contents (Elt Ideal)) (j : Dev nD) (r k : Fin 128) :
    xBlk X j (ix2 r k) = X (ix2 (at8 j r) k) := by
  show X _ = X _
  refine congrArg X (funext fun a => Fin.ext ?_)
  match a with
  | ⟨0, _⟩ => show 128 * j.val + 1 * r.val = 128 * j.val + r.val; rw [Nat.one_mul]
  | ⟨1, _⟩ => show 0 + 1 * k.val = k.val; rw [Nat.one_mul, Nat.zero_add]

theorem wBlk_at (W : (cc0_stg1_0 : Ref sig .tc).ty.Contents (Elt Ideal)) (j : Dev nD) (k : Fin 128) (n : Fin 1024) :
    wBlk W j (ix2 k n) = W (ix2 (at8 j k) n) := by
  show W _ = W _
  refine congrArg W (funext fun a => Fin.ext ?_)
  match a with
  | ⟨0, _⟩ => show 128 * j.val + 1 * k.val = 128 * j.val + k.val; rw [Nat.one_mul]
  | ⟨1, _⟩ => show 0 + 1 * n.val = n.val; rw [Nat.one_mul, Nat.zero_add]

theorem rounded_same (x : Vec Ideal S1024x128 .f32) : k0_pay1 x = x := by
  unfold k0_pay1
  dsimp only
  rw [shapeCast_self, shapeCast_self]
  rfl

/-- What arrived from device `j` on device `c` is the rows of `j`'s block that belong to `c`. -/
theorem gxBlk_at (xb : Dev nD → (cc0_scratch0 : Ref sig .tc).ty.Contents (Elt Ideal)) (c j : Dev nD) (r k : Fin 128) :
    slab (gxBlk xb c j) (ix2 r k) = xb j (ix2 (at8 c r) k) := by
  have h : slab (gxBlk xb c j) (ix2 r k) = (rowM c).view.read (Elt Ideal) (xb j) (ix2 r k) := by
    unfold slab gxBlk shapeCast
    exact congrArg _ (Equiv.symm_apply_apply _ _)
  rw [h]
  show xb j _ = xb j _
  refine congrArg (xb j) (funext fun a => Fin.ext ?_)
  match a with
  | ⟨0, _⟩ => show 128 * c.val + 1 * r.val = 128 * c.val + r.val; rw [Nat.one_mul]
  | ⟨1, _⟩ => show 0 + 1 * k.val = k.val; rw [Nat.one_mul, Nat.zero_add]

/-! ## The sums -/

theorem sum_peers (f : Dev nD → EReal) (c : Dev nD) :
    f c + f (peer c 0) + f (peer c 1) + f (peer c 2) + f (peer c 3) + f (peer c 4) + f (peer c 5) + f (peer c 6) = ∑ j, f j := by
  rw [← Finset.add_sum_erase Finset.univ f (Finset.mem_univ c), ← peers_all, List.sum_toFinset f (peers_nodup c)]
  simp only [peers, List.map_cons, List.map_nil, List.sum_cons, List.sum_nil, add_zero, add_assoc]

theorem sum_blocks (f : Fin 1024 → EReal) : ∑ j : Dev nD, ∑ k : Fin 128, f (at8 j k) = ∑ K : Fin 1024, f K := by
  rw [← Fintype.sum_prod_type']
  refine Fintype.sum_equiv (finProdFinEquiv (m := 8) (n := 128)) _ f fun x => congrArg f (Fin.ext ?_)
  show 128 * x.1.val + x.2.val = x.2.val + 128 * x.1.val
  exact Nat.add_comm _ _

variable (m : (ℓ : Loc nD τ sig) → Buf (Elt Ideal) ℓ)

/-- The entries of the block that device `j` holds, and those of its copy of the second matrix. -/
def xEnt (j : Dev nD) (q : Fin 1024) (k : Fin 128) : EReal := xIn m j (ix2 q k)
def wEnt (c : Dev nD) (q n : Fin 1024) : EReal := wIn m c (ix2 q n)

/-- The result of device `c` at row `r` and column `n`: the sum over all blocks and all columns of the block. -/
theorem outIn_at (c : Dev nD) (r : Fin 128) (n : Fin 1024) :
    outIn m c (ix2 r n) = max (∑ j : Dev nD, ∑ k : Fin 128, xEnt m j (at8 c r) k * wEnt m c (at8 j k) n) nought := by
  have own : blockDot (xBlk (xIn m c) c) (wBlk (wIn m c) c) r n = ∑ k : Fin 128, xEnt m c (at8 c r) k * wEnt m c (at8 c k) n :=
    Finset.sum_congr rfl fun k _ => by rw [xBlk_at, wBlk_at]; rfl
  have got (j : Dev nD) : blockDot (slab (gxBlk (xbIn m) c j)) (wBlk (wIn m c) j) r n
      = ∑ k : Fin 128, xEnt m j (at8 c r) k * wEnt m c (at8 j k) n :=
    Finset.sum_congr rfl fun k _ => by rw [gxBlk_at, wBlk_at]; unfold xbIn; rw [rounded_same]; rfl
  unfold outIn outOf
  rw [pay6_at, pay5_at, pay4_at, pay3_at, pay2_at, own, got, got, got, got, got, got, got,
    sum_peers (fun j => ∑ k : Fin 128, xEnt m j (at8 c r) k * wEnt m c (at8 j k) n) c]

/-- If the devices hold the column blocks of `A`, and each of them `B`, then what device `c` computes is, at row `r` and
    column `n`, the product of `A` and `B` at row `r` of block `c`, or zero. -/
theorem out_product (A B : FVec Ideal ⟨2, ![1024, 1024]⟩ .f32)
    (hA : ∀ j, xIn m j = Layout.block ⟨2, ![1024, 128]⟩ ⟨2, ![1024, 1024]⟩ 1 8 j A) (hB : ∀ j, wIn m j = B)
    (c : Dev nD) (r : Fin 128) (n : Fin 1024) :
    outIn m c (ix2 r n) = max (∑ K : Fin 1024, A (ix2 (at8 c r) K) * B (ix2 K n)) nought := by
  have e (j : Dev nD) (q : Fin 1024) (k : Fin 128) : xEnt m j q k = A (ix2 q (at8 j k)) := by
    unfold xEnt
    rw [hA j, Layout.block_apply]
    refine congrArg A (funext fun a => Fin.ext ?_)
    match a with
    | ⟨0, _⟩ => rfl
    | ⟨1, _⟩ => show j.val * 128 + k.val = 128 * j.val + k.val; rw [Nat.mul_comm]
  have e' (q : Fin 1024) : wEnt m c q n = B (ix2 q n) := by unfold wEnt; rw [hB]
  rw [outIn_at, ← sum_blocks fun K => A (ix2 (at8 c r) K) * B (ix2 K n)]
  simp only [e, e']

end Cert.Exchange

end

end
-- ==== Proof.Same.lean ====
/-
# The kernel and its idealization are one text

The ideal pass rewrote nothing, so the two printed programs are equal, and a run of the one is a run of the other.
-/
module

public import proofs.«01_k».proof.Defs
public import proofs.«01_k».proof.Proof.Gen.Kernel
public import proofs.«01_k».proof.Proof.Gen.KernelIdeal

@[expose] public section

set_option maxHeartbeats 1000000
set_option maxRecDepth 100000

noncomputable section

namespace Cert.Exchange

open Idealize.ShloMosaic Idealize.ShloMosaic.TcCoe Idealize.SL.Sem

variable {F : FTy → Type} [FloatOps F]

/-- The bodies of the two programs are equal. -/
theorem same_body : Cert.Kernel.cc0_body (F := F) = Cert.KernelIdeal.cc0_body (F := F) := rfl

/-- So are their body tables, label by label, -/
theorem same_bodies : Cert.Kernel.defs₀ (F := F) = Cert.KernelIdeal.defs₀ (F := F) := by
  funext p
  cases p with
  | tc =>
    funext l a
    obtain ⟨n, hn⟩ := l
    obtain rfl : n = 0 := Nat.lt_one_iff.mp hn
    rfl
  | scScalar _ => rfl
  | scVector _ _ => rfl

/-- with the pipeline's own labels too, -/
theorem same_defs : Cert.Kernel.defs (F := F) = Cert.KernelIdeal.defs (F := F) :=
  congrArg (Pipeline.defs (Cert.KernelIdeal.pcfgs (F := F))) same_bodies

/-- and the programs that the devices run. -/
theorem same_main : Cert.Kernel.main (F := F) = Cert.KernelIdeal.main (F := F) := rfl

/-- What holds of every run of the one holds of every run of the other. -/
theorem same_run (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.KernelIdeal.τ) (Cert.KernelIdeal.main (F := F))) s Q) same_defs).mpr h

end Cert.Exchange

end

end
-- ==== Proof.lean ====
/- The claims: the run of the kernel over any floats gives its frame at the machine's floats and at the ideal ones; the
   reference's run gives its own; the sum of block products is the product, block by block. -/
module

public import proofs.«01_k».proof.Proof.Launch
public import proofs.«01_k».proof.Proof.Value
public import proofs.«01_k».proof.Proof.Same
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The kernel ends on every device at the machine's floats, its arguments unchanged and every counter at zero. -/
theorem frame_kernel : Cert.quiescent_Kernel := fun m ρ _ =>
  Cert.Exchange.same_run _ _ ((θ_run Cert.KernelIdeal.defs _ _).mono (fun _ h => ⟨fun c => ⟨(h.1 c).1, (h.1 c).2.1⟩, h.2⟩)
    (Cert.Exchange.run_main (F := Bits) m ρ))

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.Exchange.run_main (F := Ideal) m ρ)

/-- The reference ends with its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's result at a row and a column: the product of the two matrices there, or zero. -/
theorem reference_at (A B : FVec Ideal Cert.ReferenceIdeal.S1024x1024 .f32) (q n : Fin 1024) :
    maximumf (Host.dotGeneral Cert.ReferenceIdeal.dot_S1024x1024_S1024x1024_S1024x1024_1_0_0_1_n_n none A B)
        (broadcastInDim Cert.ReferenceIdeal.S1024x1024 ![] Cert.ReferenceIdeal.Gen.bcast_S_S1024x1024
          (constant (F := Ideal) Cert.ReferenceIdeal.S_ .f32 0x00000000#32)) (ix2 q n)
      = max (∑ K : Fin 1024, A (ix2 q K) * B (ix2 K n)) Cert.Exchange.nought :=
  congrArg (fun e => max e Cert.Exchange.nought) (StackMember.dotGeneral_plain_apply (m := 1024) (k := 1024) (n := 1024) none A B q n)

/-- Each device's result is its block of rows of the reference's result. -/
theorem algebra : Cert.algebraic_KernelIdeal_ReferenceIdeal := by
  intro m ρ m' ρ' _ hm
  refine ⟨_, (θ_run Cert.KernelIdeal.defs _ _).mono (fun _ h c => ⟨(h.1 c).2.2.trans ?_, (h.1 c).1, (h.1 c).2.1⟩)
      (Cert.Exchange.run_main (F := Ideal) m ρ),
    (θ_run Cert.ReferenceIdeal.defs _ _).mono (fun _ h => h 0) (Cert.ReferenceIdeal.Value.run m' ρ')⟩
  refine funext fun (i : (⟨2, ![128, 1024]⟩ : Shape).Idx) => ?_
  obtain ⟨r, n, rfl⟩ : ∃ (r : Fin 128) (n : Fin 1024), i = ix2 r n := ⟨i 0, i 1, eq_ix2 i⟩
  refine (Cert.Exchange.out_product m _ _ (fun j => (hm j).1) (fun j => (hm j).2) c r n).trans ((reference_at _ _ _ n).symm.trans ?_)
  refine congrArg (maximumf (F := Ideal) _ _) (funext fun a => Fin.ext ?_)
  match a with
  | ⟨0, _⟩ => exact (congrArg (· + r.val) (Nat.mul_comm 128 c.val))
  | ⟨1, _⟩ => rfl

theorem claim : Cert.Claim := ⟨Cert.Kernel.Gen.facts, Cert.KernelIdeal.Gen.facts, Cert.ReferenceIdeal.Gen.facts,
  frame_kernel, frame_ideal, frame_reference, trivial, algebra⟩

end Cert.Proof

end
